-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_image_finite [hPre_image_finite : Cert.Pre_image_finite.Facts] (m : (ℓ : Loc Cert.KernelIdeal.nD Cert.KernelIdeal.τ Cert.KernelIdeal.sig) → Buf (Elt Ideal) ℓ) : Prop :=
  ∀ c : Dev Cert.KernelIdeal.nD,
    (Cert.Pre_image_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_image_finite [hPre_image_finite : Cert.Pre_image_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_image_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_image_finite [hKernelIdeal : Cert.KernelIdeal.Facts] [hPre_image_finite : Cert.Pre_image_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_image_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_image_finite [hReferenceIdeal : Cert.ReferenceIdeal.Facts] [hPre_image_finite : Cert.Pre_image_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_image_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_image_finite [hKernelIdeal : Cert.KernelIdeal.Facts] [hReferenceIdeal : Cert.ReferenceIdeal.Facts] [hPre_image_finite : Cert.Pre_image_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_image_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v221) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_image_finite : Cert.Pre_image_finite.Facts),
    quiescent_Kernel (hKernel := hKernel)
    ∧ quiescent_KernelIdeal (hKernelIdeal := hKernelIdeal)
    ∧ quiescent_KernelIdeal_pre_image_finite (hKernelIdeal := hKernelIdeal) (hPre_image_finite := hPre_image_finite)
    ∧ quiescent_ReferenceIdeal (hReferenceIdeal := hReferenceIdeal)
    ∧ quiescent_ReferenceIdeal_pre_image_finite (hReferenceIdeal := hReferenceIdeal) (hPre_image_finite := hPre_image_finite)
    ∧ preserves_Kernel_KernelIdeal
    ∧ algebraic_KernelIdeal_ReferenceIdeal_pre_image_finite (hKernelIdeal := hKernelIdeal) (hReferenceIdeal := hReferenceIdeal) (hPre_image_finite := hPre_image_finite)
-- ==== Pre_image_finite.lean ====
abbrev S64x64x21 : Shape := ⟨3, ![64, 64, 21]⟩
abbrev S64x64x3 : Shape := ⟨3, ![64, 64, 3]⟩
abbrev S_ : Shape := ⟨0, ![]⟩

class Facts : Prop where
  bcast_S_S64x64x3 : S_.BroadcastsInDim S64x64x3 (![] : Fin 0 → Fin S64x64x3.rank)

variable [Facts]

def fn {F : FTy → Type} [FloatOps F] (main_arg0 : FVec F S64x64x21 .f32) (main_arg1 : FVec F S64x64x3 .f32) (main_arg2 : FVec F S_ .f32) (main_arg3 : FVec F S_ .f32) : IVec S64x64x3 1 :=
  let main_v0 : FVec F S64x64x3 .f32 := Host.absf main_arg1
  let main_cst : FVec F S_ .f32 := constant S_ .f32 0x7F800000#32
  let main_v1 : FVec F S64x64x3 .f32 := broadcastInDim S64x64x3 ![] bcast_S_S64x64x3 main_cst
  let main_v2 : IVec S64x64x3 1 := cmpf .olt main_v0 main_v1
  main_v2
-- ==== Kernel.lean ====
abbrev S64x64x21 : Shape := ⟨3, ![64, 64, 21]⟩
abbrev S64x64x3 : Shape := ⟨3, ![64, 64, 3]⟩
abbrev S_ : Shape := ⟨0, ![]⟩
abbrev S4096x21 : Shape := ⟨2, ![4096, 21]⟩
abbrev S21x4096 : Shape := ⟨2, ![21, 4096]⟩
abbrev S64 : Shape := ⟨1, ![64]⟩
abbrev S64x64 : Shape := ⟨2, ![64, 64]⟩
abbrev S64x64x1 : Shape := ⟨3, ![64, 64, 1]⟩
abbrev S64x64x2 : Shape := ⟨3, ![64, 64, 2]⟩
abbrev S4096x2 : Shape := ⟨2, ![4096, 2]⟩
abbrev S4096x3 : Shape := ⟨2, ![4096, 3]⟩
abbrev S4096x5 : Shape := ⟨2, ![4096, 5]⟩
abbrev S4096x8 : Shape := ⟨2, ![4096, 8]⟩
abbrev S4096x1 : Shape := ⟨2, ![4096, 1]⟩
abbrev S8x4096 : Shape := ⟨2, ![8, 4096]⟩
abbrev S4096 : Shape := ⟨1, ![4096]⟩
abbrev S1 : Shape := ⟨1, ![1]⟩
abbrev S1x4096 : Shape := ⟨2, ![1, 4096]⟩
abbrev S3072x4096 : Shape := ⟨2, ![3072, 4096]⟩
abbrev S3072x1024 : Shape := ⟨2, ![3072, 1024]⟩
abbrev S3072x8 : Shape := ⟨2, ![3072, 8]⟩
abbrev S8x1024 : Shape := ⟨2, ![8, 1024]⟩
abbrev S3072x1 : Shape := ⟨2, ![3072, 1]⟩
abbrev S1x1024 : Shape := ⟨2, ![1, 1024]⟩
abbrev S4096x4096 : Shape := ⟨2, ![4096, 4096]⟩
abbrev S1024x8 : Shape := ⟨2, ![1024, 8]⟩
abbrev S1024x4096 : Shape := ⟨2, ![1024, 4096]⟩
abbrev S1024x1 : Shape := ⟨2, ![1024, 1]⟩
abbrev S21x3072 : Shape := ⟨2, ![21, 3072]⟩
abbrev S4096x1024 : Shape := ⟨2, ![4096, 1024]⟩
abbrev S21x1024 : Shape := ⟨2, ![21, 1024]⟩
abbrev S1024 : Shape := ⟨1, ![1024]⟩

abbrev nBuf : Space → Nat
  | .hbm => 56
  | .vmem => 17
  | .smem => 2
  | _ => 0

abbrev bufTy : (tb : Table) → Fin (tcTables nBuf tb) → BufTy
  | .hbm, ⟨0, _⟩ => ⟨S64x64x21, .f32⟩
  | .hbm, ⟨1, _⟩ => ⟨S64x64x3, .f32⟩
  | .hbm, ⟨2, _⟩ => ⟨S_, .f32⟩
  | .hbm, ⟨3, _⟩ => ⟨S_, .f32⟩
  | .hbm, ⟨4, _⟩ => ⟨S4096x21, .f32⟩
  | .hbm, ⟨5, _⟩ => ⟨S21x4096, .f32⟩
  | .hbm, ⟨6, _⟩ => ⟨S64, .f32⟩
  | .hbm, ⟨7, _⟩ => ⟨S64, .f32⟩
  | .hbm, ⟨8, _⟩ => ⟨S64x64, .f32⟩
  | .hbm, ⟨9, _⟩ => ⟨S64x64, .f32⟩
  | .hbm, ⟨10, _⟩ => ⟨S64x64x1, .f32⟩
  | .hbm, ⟨11, _⟩ => ⟨S64x64x1, .f32⟩
  | .hbm, ⟨12, _⟩ => ⟨S64x64x2, .f32⟩
  | .hbm, ⟨13, _⟩ => ⟨S4096x2, .f32⟩
  | .hbm, ⟨14, _⟩ => ⟨S4096x3, .f32⟩
  | .hbm, ⟨15, _⟩ => ⟨S_, .f32⟩
  | .hbm, ⟨16, _⟩ => ⟨S4096x2, .f32⟩
  | .hbm, ⟨17, _⟩ => ⟨S4096x2, .f32⟩
  | .hbm, ⟨18, _⟩ => ⟨S_, .f32⟩
  | .hbm, ⟨19, _⟩ => ⟨S4096x3, .f32⟩
  | .hbm, ⟨20, _⟩ => ⟨S4096x3, .f32⟩
  | .hbm, ⟨21, _⟩ => ⟨S4096x5, .f32⟩
  | .hbm, ⟨22, _⟩ => ⟨S_, .f32⟩
  | .hbm, ⟨23, _⟩ => ⟨S4096x2, .f32⟩
  | .hbm, ⟨24, _⟩ => ⟨S4096x2, .f32⟩
  | .hbm, ⟨25, _⟩ => ⟨S_, .f32⟩
  | .hbm, ⟨26, _⟩ => ⟨S4096x3, .f32⟩
  | .hbm, ⟨27, _⟩ => ⟨S_, .f32⟩
  | .hbm, ⟨28, _⟩ => ⟨S4096x5, .f32⟩
  | .hbm, ⟨29, _⟩ => ⟨S4096x8, .f32⟩
  | .hbm, ⟨30, _⟩ => ⟨S4096x1, .f32⟩
  | .hbm, ⟨31, _⟩ => ⟨S4096x8, .f32⟩
  | .hbm, ⟨32, _⟩ => ⟨S4096x8, .f32⟩
  | .hbm, ⟨33, _⟩ => ⟨S8x4096, .f32⟩
  | .hbm, ⟨34, _⟩ => ⟨S4096x5, .f32⟩
  | .hbm, ⟨35, _⟩ => ⟨S_, .f32⟩
  | .hbm, ⟨36, _⟩ => ⟨S4096, .f32⟩
  | .hbm, ⟨37, _⟩ => ⟨S_, .f32⟩
  | .hbm, ⟨38, _⟩ => ⟨S4096, .f32⟩
  | .hbm, ⟨39, _⟩ => ⟨S4096, .f32⟩
  | .hbm, ⟨40, _⟩ => ⟨S4096x2, .f32⟩
  | .hbm, ⟨41, _⟩ => ⟨S_, .f32⟩
  | .hbm, ⟨42, _⟩ => ⟨S4096, .f32⟩
  | .hbm, ⟨43, _⟩ => ⟨S_, .f32⟩
  | .hbm, ⟨44, _⟩ => ⟨S4096, .f32⟩
  | .hbm, ⟨45, _⟩ => ⟨S4096, .f32⟩
  | .hbm, ⟨46, _⟩ => ⟨S1, .f32⟩
  | .hbm, ⟨47, _⟩ => ⟨S1, .f32⟩
  | .hbm, ⟨48, _⟩ => ⟨S4096x1, .f32⟩
  | .hbm, ⟨49, _⟩ => ⟨S1x4096, .f32⟩
  | .hbm, ⟨50, _⟩ => ⟨S3072x4096, .bf16⟩
  | .hbm, ⟨51, _⟩ => ⟨S4096x1, .f32⟩
  | .hbm, ⟨52, _⟩ => ⟨S1x4096, .f32⟩
  | .hbm, ⟨53, _⟩ => ⟨S21x4096, .f32⟩
  | .hbm, ⟨54, _⟩ => ⟨S4096x21, .f32⟩
  | .hbm, ⟨55, _⟩ => ⟨S64x64x21, .f32⟩
  | .local _ .vmem, ⟨0, _⟩ => ⟨S4096x8, .f32⟩
  | .local _ .vmem, ⟨1, _⟩ => ⟨S8x4096, .f32⟩
  | .local _ .vmem, ⟨2, _⟩ => ⟨S4096x1, .f32⟩
  | .local _ .vmem, ⟨3, _⟩ => ⟨S1x4096, .f32⟩
  | .local _ .vmem, ⟨4, _⟩ => ⟨S3072x1024, .bf16⟩
  | .local _ .vmem, ⟨5, _⟩ => ⟨S3072x1024, .bf16⟩
  | .local _ .vmem, ⟨6, _⟩ => ⟨S4096x8, .f32⟩
  | .local _ .vmem, ⟨7, _⟩ => ⟨S8x4096, .f32⟩
  | .local _ .vmem, ⟨8, _⟩ => ⟨S4096x1, .f32⟩
  | .local _ .vmem, ⟨9, _⟩ => ⟨S1x4096, .f32⟩
  | .local _ .vmem, ⟨10, _⟩ => ⟨S21x4096, .f32⟩
  | .local _ .vmem, ⟨11, _⟩ => ⟨S3072x1024, .bf16⟩
  | .local _ .vmem, ⟨12, _⟩ => ⟨S3072x1024, .bf16⟩
  | .local _ .vmem, ⟨13, _⟩ => ⟨S21x4096, .f32⟩
  | .local _ .vmem, ⟨14, _⟩ => ⟨S4096x4096, .bf16⟩
  | .local _ .vmem, ⟨15, _⟩ => ⟨S21x4096, .bf16⟩
  | .local _ .vmem, ⟨16, _⟩ => ⟨S21x4096, .bf16⟩
  | .local _ .smem, ⟨0, _⟩ => ⟨S1, .f32⟩
  | .local _ .smem, ⟨1, _⟩ => ⟨S1, .f32⟩
  | _, _ => ⟨S64x64x21, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_v7 : Ref sig .tc := ⟨.hbm, 11, rfl⟩
abbrev main_call0_v8 : Ref sig .tc := ⟨.hbm, 12, rfl⟩
abbrev main_call0_v9 : Ref sig .tc := ⟨.hbm, 13, rfl⟩
abbrev main_call0_v10 : Ref sig .tc := ⟨.hbm, 14, rfl⟩
abbrev main_call0_cst : Ref sig .tc := ⟨.hbm, 15, rfl⟩
abbrev main_call0_v11 : Ref sig .tc := ⟨.hbm, 16, rfl⟩
abbrev main_call0_v12 : Ref sig .tc := ⟨.hbm, 17, rfl⟩
abbrev main_call0_cst_0 : Ref sig .tc := ⟨.hbm, 18, rfl⟩
abbrev main_call0_v13 : Ref sig .tc := ⟨.hbm, 19, rfl⟩
abbrev main_call0_v14 : Ref sig .tc := ⟨.hbm, 20, rfl⟩
abbrev main_call0_v15 : Ref sig .tc := ⟨.hbm, 21, rfl⟩
abbrev main_call0_cst_1 : Ref sig .tc := ⟨.hbm, 22, rfl⟩
abbrev main_call0_v16 : Ref sig .tc := ⟨.hbm, 23, rfl⟩
abbrev main_call0_v17 : Ref sig .tc := ⟨.hbm, 24, rfl⟩
abbrev main_call0_cst_2 : Ref sig .tc := ⟨.hbm, 25, rfl⟩
abbrev main_call0_v18 : Ref sig .tc := ⟨.hbm, 26, rfl⟩
abbrev main_call0_cst_3 : Ref sig .tc := ⟨.hbm, 27, rfl⟩
abbrev main_call0_v19 : Ref sig .tc := ⟨.hbm, 28, rfl⟩
abbrev main_call0_v20 : Ref sig .tc := ⟨.hbm, 29, rfl⟩
abbrev main_call0_v21 : Ref sig .tc := ⟨.hbm, 30, rfl⟩
abbrev main_call0_v22 : Ref sig .tc := ⟨.hbm, 31, rfl⟩
abbrev main_call0_v23 : Ref sig .tc := ⟨.hbm, 32, rfl⟩
abbrev main_call0_v24 : Ref sig .tc := ⟨.hbm, 33, rfl⟩
abbrev main_call0_v25 : Ref sig .tc := ⟨.hbm, 34, rfl⟩
abbrev main_call0_cst_4 : Ref sig .tc := ⟨.hbm, 35, rfl⟩
abbrev main_call0_v26 : Ref sig .tc := ⟨.hbm, 36, rfl⟩
abbrev main_call0_cst_5 : Ref sig .tc := ⟨.hbm, 37, rfl⟩
abbrev main_call0_v27 : Ref sig .tc := ⟨.hbm, 38, rfl⟩
abbrev main_call0_v28 : Ref sig .tc := ⟨.hbm, 39, rfl⟩
abbrev main_call0_v29 : Ref sig .tc := ⟨.hbm, 40, rfl⟩
abbrev main_call0_cst_6 : Ref sig .tc := ⟨.hbm, 41, rfl⟩
abbrev main_call0_v30 : Ref sig .tc := ⟨.hbm, 42, rfl⟩
abbrev main_call0_cst_7 : Ref sig .tc := ⟨.hbm, 43, rfl⟩
abbrev main_call0_v31 : Ref sig .tc := ⟨.hbm, 44, rfl⟩
abbrev main_call0_v32 : Ref sig .tc := ⟨.hbm, 45, rfl⟩
abbrev main_call0_v33 : Ref sig .tc := ⟨.hbm, 46, rfl⟩
abbrev main_call0_v34 : Ref sig .tc := ⟨.hbm, 47, rfl⟩
abbrev main_call0_v35 : Ref sig .tc := ⟨.hbm, 48, rfl⟩
abbrev main_call0_v36 : Ref sig .tc := ⟨.hbm, 49, rfl⟩
abbrev main_call0_v37 : Ref sig .tc := ⟨.hbm, 50, rfl⟩
abbrev main_call0_v38 : Ref sig .tc := ⟨.hbm, 51, rfl⟩
abbrev main_call0_v39 : Ref sig .tc := ⟨.hbm, 52, rfl⟩
abbrev main_call0_v40 : Ref sig .tc := ⟨.hbm, 53, rfl⟩
abbrev main_call0_v41 : Ref sig .tc := ⟨.hbm, 54, rfl⟩
abbrev main_v0 : Ref sig .tc := ⟨.hbm, 55, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg5_1 : Ref sig .tc := ⟨.vmem, 12, rfl⟩
abbrev cc1_stg8_0 : Ref sig .tc := ⟨.vmem, 13, rfl⟩
abbrev cc1_scratch0 : Ref sig .tc := ⟨.vmem, 14, rfl⟩
abbrev cc1_scratch1 : Ref sig .tc := ⟨.vmem, 15, rfl⟩
abbrev cc1_scratch2 : Ref sig .tc := ⟨.vmem, 16, rfl⟩
abbrev cc1_stg6_0 : Ref sig .tc := ⟨.smem, 0, rfl⟩
abbrev cc1_stg7_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc1_sem0_0 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem5_1 : DmaSem sig := 12
abbrev cc1_sem6_0 : DmaSem sig := 13
abbrev cc1_sem7_0 : DmaSem sig := 14
abbrev cc1_sem8_0 : DmaSem sig := 15

abbrev nD : Nat := 1
abbrev τ : Topo := Topo.v7x

variable {F : FTy → Type} [FloatOps F]

abbrev grid0 : Pipeline.Grid := ⟨1, ![4], ![false]⟩

def k0_mult1 (i : grid0.Coords) : BitVec 32 :=
  let c8_i32_1 : BitVec 32 := 8#32
  let c0_i32 : BitVec 32 := 0#32
  let c8_i32 : BitVec 32 := 8#32
  let arg0 : BitVec 32 := BitVec.ofNat 32 (i 0).val
  let v0 : BitVec 32 := Scalar.muli c8_i32 arg0
  let c8_i32_0 : BitVec 32 := 8#32
  let v1 : BitVec 32 := Scalar.subi v0 c8_i32_0
  let v2 : BitVec 32 := Scalar.maxsi c0_i32 v1
  let v3 : BitVec 32 := Scalar.minsi c8_i32_1 v2
  let c128_i32 : BitVec 32 := 128#32
  let v4 : BitVec 32 := Scalar.muli v3 c128_i32
  v4
def k0_off1 (i : grid0.Coords) : Fin 2 → Nat :=
  let c8_i32_1 : BitVec 32 := 8#32
  let c0_i32 : BitVec 32 := 0#32
  let c8_i32 : BitVec 32 := 8#32
  let arg0 : BitVec 32 := BitVec.ofNat 32 (i 0).val
  let v0 : BitVec 32 := Scalar.muli c8_i32 arg0
  let c8_i32_0 : BitVec 32 := 8#32
  let v1 : BitVec 32 := Scalar.subi v0 c8_i32_0
  let v2 : BitVec 32 := Scalar.maxsi c0_i32 v1
  let v3 : BitVec 32 := Scalar.minsi c8_i32_1 v2
  let c128_i32 : BitVec 32 := 128#32
  let v4 : BitVec 32 := Scalar.muli v3 c128_i32
  let v5 : BitVec 32 := v4
  let v6 : Index := Scalar.indexCast v5
  let c0 : Index := 0#32
  ![v6.toNat, 0]
def k0_off2 (i : grid0.Coords) : Fin 2 → Nat :=
  let c0_2 : Index := 0#32
  let arg0 : BitVec 32 := BitVec.ofNat 32 (i 0).val
  let c1024_i32 : BitVec 32 := 1024#32
  let v9 : BitVec 32 := Scalar.muli arg0 c1024_i32
  let v10 : Index := Scalar.indexCast v9
  ![0, v10.toNat]
def k0_off3 (i : grid0.Coords) : Fin 2 → Nat :=
  let c8_i32_1 : BitVec 32 := 8#32
  let c0_i32 : BitVec 32 := 0#32
  let c8_i32 : BitVec 32 := 8#32
  let arg0 : BitVec 32 := BitVec.ofNat 32 (i 0).val
  let v0 : BitVec 32 := Scalar.muli c8_i32 arg0
  let c8_i32_0 : BitVec 32 := 8#32
  let v1 : BitVec 32 := Scalar.subi v0 c8_i32_0
  let v2 : BitVec 32 := Scalar.maxsi c0_i32 v1
  let v3 : BitVec 32 := Scalar.minsi c8_i32_1 v2
  let c128_i32 : BitVec 32 := 128#32
  let v4 : BitVec 32 := Scalar.muli v3 c128_i32
  let v5 : BitVec 32 := v4
  let v14 : Index := Scalar.indexCast v5
  let c0_3 : Index := 0#32
  ![v14.toNat, 0]
def k0_off4 (i : grid0.Coords) : Fin 2 → Nat :=
  let c0_5 : Index := 0#32
  let arg0 : BitVec 32 := BitVec.ofNat 32 (i 0).val
  let c1024_i32_4 : BitVec 32 := 1024#32
  let v17 : BitVec 32 := Scalar.muli arg0 c1024_i32_4
  let v18 : Index := Scalar.indexCast v17
  ![0, v18.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S4096x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S3072x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![6, 4], ![false, false]⟩

def k1_cond1 (i : grid1.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k1_off1 (i : grid1.Coords) : Fin 2 → Nat :=
  let arg1 : BitVec 32 := BitVec.ofNat 32 (i 1).val
  let c1024_i32 : BitVec 32 := 1024#32
  let v33 : BitVec 32 := Scalar.muli arg1 c1024_i32
  let v34 : Index := Scalar.indexCast v33
  let c0 : Index := 0#32
  ![v34.toNat, 0]
def k1_off2 (i : grid1.Coords) : Fin 2 → Nat :=
  let arg1 : BitVec 32 := BitVec.ofNat 32 (i 1).val
  let c1024_i32_19 : BitVec 32 := 1024#32
  let v40 : BitVec 32 := Scalar.muli arg1 c1024_i32_19
  let v41 : Index := Scalar.indexCast v40
  let c0_20 : Index := 0#32
  ![v41.toNat, 0]
def k1_off3 (i : grid1.Coords) : Fin 2 → Nat :=
  let arg1 : BitVec 32 := BitVec.ofNat 32 (i 1).val
  let c1024_i32_26 : BitVec 32 := 1024#32
  let v62 : BitVec 32 := Scalar.muli arg1 c1024_i32_26
  let v63 : Index := Scalar.indexCast v62
  let c0_27 : Index := 0#32
  ![v63.toNat, 0]
def k1_cond3 (i : grid1.Coords) : BitVec 1 :=
  let arg0 : BitVec 32 := BitVec.ofNat 32 (i 0).val
  let c1_i32 : BitVec 32 := 1#32
  let v3 : BitVec 1 := Scalar.cmpi .sge arg0 c1_i32
  let c2_i32 : BitVec 32 := 2#32
  let c0_i32_1 : BitVec 32 := 0#32
  let v4 : BitVec 1 := Scalar.cmpi .eq c2_i32 c0_i32_1
  let c1_i32_2 : BitVec 32 := 1#32
  let v5 : BitVec 32 := Scalar.select v4 c1_i32_2 c2_i32
  let v6 : BitVec 32 := Scalar.remsi arg0 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6 : BitVec 32 := 1#32
  let v14 : BitVec 1 := Scalar.cmpi .eq v13 c1_i32_6
  let v15 : BitVec 1 := Scalar.andi v3 v14
  let v16 : BitVec 32 := Scalar.extui v15
  let c0_i32_7 : BitVec 32 := 0#32
  let v17 : BitVec 1 := Scalar.cmpi .ne v16 c0_i32_7
  v17

def k1_mult1 (i : grid1.Coords) : BitVec 32 :=
  let c8_i32_20 : BitVec 32 := 8#32
  let c0_i32_19 : BitVec 32 := 0#32
  let c8_i32 : BitVec 32 := 8#32
  let arg1 : BitVec 32 := BitVec.ofNat 32 (i 1).val
  let v34 : BitVec 32 := Scalar.muli c8_i32 arg1
  let c8_i32_18 : BitVec 32 := 8#32
  let v35 : BitVec 32 := Scalar.subi v34 c8_i32_18
  let v36 : BitVec 32 := Scalar.maxsi c0_i32_19 v35
  let v37 : BitVec 32 := Scalar.minsi c8_i32_20 v36
  let c128_i32 : BitVec 32 := 128#32
  let v38 : BitVec 32 := Scalar.muli v37 c128_i32
  v38
def k1_off4 (i : grid1.Coords) : Fin 2 → Nat :=
  let c0_21 : Index := 0#32
  let c8_i32_20 : BitVec 32 := 8#32
  let c0_i32_19 : BitVec 32 := 0#32
  let c8_i32 : BitVec 32 := 8#32
  let arg1 : BitVec 32 := BitVec.ofNat 32 (i 1).val
  let v34 : BitVec 32 := Scalar.muli c8_i32 arg1
  let c8_i32_18 : BitVec 32 := 8#32
  let v35 : BitVec 32 := Scalar.subi v34 c8_i32_18
  let v36 : BitVec 32 := Scalar.maxsi c0_i32_19 v35
  let v37 : BitVec 32 := Scalar.minsi c8_i32_20 v36
  let c128_i32 : BitVec 32 := 128#32
  let v38 : BitVec 32 := Scalar.muli v37 c128_i32
  let v39 : BitVec 32 := v38
  let v40 : Index := Scalar.indexCast v39
  ![0, v40.toNat]
def k1_off5 (i : grid1.Coords) : Fin 2 → Nat :=
  let c0_22 : Index := 0#32
  let arg1 : BitVec 32 := BitVec.ofNat 32 (i 1).val
  let c1024_i32 : BitVec 32 := 1024#32
  let v42 : BitVec 32 := Scalar.muli arg1 c1024_i32
  let v43 : Index := Scalar.indexCast v42
  ![0, v43.toNat]
def k1_off6 (i : grid1.Coords) : Fin 2 → Nat :=
  let c0_30 : Index := 0#32
  let arg1 : BitVec 32 := BitVec.ofNat 32 (i 1).val
  let c1024_i32_29 : BitVec 32 := 1024#32
  let v60 : BitVec 32 := Scalar.muli arg1 c1024_i32_29
  let v61 : Index := Scalar.indexCast v60
  ![0, v61.toNat]
def k1_cond4 (i : grid1.Coords) : BitVec 1 :=
  let arg0 : BitVec 32 := BitVec.ofNat 32 (i 0).val
  let c5_i32 : BitVec 32 := 5#32
  let v82 : BitVec 1 := Scalar.cmpi .eq arg0 c5_i32
  let v83 : BitVec 32 := Scalar.extui v82
  let c0_i32_36 : BitVec 32 := 0#32
  let v84 : BitVec 1 := Scalar.cmpi .ne v83 c0_i32_36
  v84

def k1_off7 (i : grid1.Coords) : Fin 2 → Nat :=
  let c0_38 : Index := 0#32
  let arg1 : BitVec 32 := BitVec.ofNat 32 (i 1).val
  let c1024_i32_37 : BitVec 32 := 1024#32
  let v85 : BitVec 32 := Scalar.muli arg1 c1024_i32_37
  let v86 : Index := Scalar.indexCast v85
  ![0, v86.toNat]
def k1_cond5 (i : grid1.Coords) : BitVec 1 :=
  let arg0 : BitVec 32 := BitVec.ofNat 32 (i 0).val
  let c2_i32_8 : BitVec 32 := 2#32
  let v18 : BitVec 1 := Scalar.cmpi .sge arg0 c2_i32_8
  let c2_i32_9 : BitVec 32 := 2#32
  let c0_i32_10 : BitVec 32 := 0#32
  let v19 : BitVec 1 := Scalar.cmpi .eq c2_i32_9 c0_i32_10
  let c1_i32_11 : BitVec 32 := 1#32
  let v20 : BitVec 32 := Scalar.select v19 c1_i32_11 c2_i32_9
  let v21 : BitVec 32 := Scalar.remsi arg0 v20
  let c0_i32_13 : BitVec 32 := 0#32
  let v23 : BitVec 1 := Scalar.cmpi .slt v21 c0_i32_13
  let c0_i32_14 : BitVec 32 := 0#32
  let v24 : BitVec 1 := Scalar.cmpi .slt v20 c0_i32_14
  let v25 : BitVec 1 := Scalar.xori v23 v24
  let c0_i32_12 : BitVec 32 := 0#32
  let v22 : BitVec 1 := Scalar.cmpi .ne v21 c0_i32_12
  let v26 : BitVec 1 := Scalar.andi v25 v22
  let v27 : BitVec 32 := Scalar.addi v21 v20
  let v28 : BitVec 32 := Scalar.select v26 v27 v21
  let c0_i32_15 : BitVec 32 := 0#32
  let v29 : BitVec 1 := Scalar.cmpi .eq v28 c0_i32_15
  let v30 : BitVec 1 := Scalar.andi v18 v29
  let v31 : BitVec 32 := Scalar.extui v30
  let c0_i32_16 : BitVec 32 := 0#32
  let v32 : BitVec 1 := Scalar.cmpi .ne v31 c0_i32_16
  v32

def k1_mult2 (i : grid1.Coords) : BitVec 32 :=
  let c8_i32_20 : BitVec 32 := 8#32
  let c0_i32_19 : BitVec 32 := 0#32
  let c8_i32 : BitVec 32 := 8#32
  let arg1 : BitVec 32 := BitVec.ofNat 32 (i 1).val
  let v34 : BitVec 32 := Scalar.muli c8_i32 arg1
  let c8_i32_18 : BitVec 32 := 8#32
  let v35 : BitVec 32 := Scalar.subi v34 c8_i32_18
  let v36 : BitVec 32 := Scalar.maxsi c0_i32_19 v35
  let v37 : BitVec 32 := Scalar.minsi c8_i32_20 v36
  let c128_i32 : BitVec 32 := 128#32
  let v38 : BitVec 32 := Scalar.muli v37 c128_i32
  v38
def k1_off8 (i : grid1.Coords) : Fin 2 → Nat :=
  let c0_21 : Index := 0#32
  let c8_i32_20 : BitVec 32 := 8#32
  let c0_i32_19 : BitVec 32 := 0#32
  let c8_i32 : BitVec 32 := 8#32
  let arg1 : BitVec 32 := BitVec.ofNat 32 (i 1).val
  let v34 : BitVec 32 := Scalar.muli c8_i32 arg1
  let c8_i32_18 : BitVec 32 := 8#32
  let v35 : BitVec 32 := Scalar.subi v34 c8_i32_18
  let v36 : BitVec 32 := Scalar.maxsi c0_i32_19 v35
  let v37 : BitVec 32 := Scalar.minsi c8_i32_20 v36
  let c128_i32 : BitVec 32 := 128#32
  let v38 : BitVec 32 := Scalar.muli v37 c128_i32
  let v39 : BitVec 32 := v38
  let v40 : Index := Scalar.indexCast v39
  ![0, v40.toNat]
def k1_off9 (i : grid1.Coords) : Fin 2 → Nat :=
  let c0_22 : Index := 0#32
  let arg1 : BitVec 32 := BitVec.ofNat 32 (i 1).val
  let c1024_i32 : BitVec 32 := 1024#32
  let v42 : BitVec 32 := Scalar.muli arg1 c1024_i32
  let v43 : Index := Scalar.indexCast v42
  ![0, v43.toNat]
def k1_off10 (i : grid1.Coords) : Fin 2 → Nat :=
  let c0_30 : Index := 0#32
  let arg1 : BitVec 32 := BitVec.ofNat 32 (i 1).val
  let c1024_i32_29 : BitVec 32 := 1024#32
  let v60 : BitVec 32 := Scalar.muli arg1 c1024_i32_29
  let v61 : Index := Scalar.indexCast v60
  ![0, v61.toNat]
def k1_cond6 (i : grid1.Coords) : BitVec 1 :=
  let arg0 : BitVec 32 := BitVec.ofNat 32 (i 0).val
  let c5_i32 : BitVec 32 := 5#32
  let v82 : BitVec 1 := Scalar.cmpi .eq arg0 c5_i32
  let v83 : BitVec 32 := Scalar.extui v82
  let c0_i32_36 : BitVec 32 := 0#32
  let v84 : BitVec 1 := Scalar.cmpi .ne v83 c0_i32_36
  v84

def k1_off11 (i : grid1.Coords) : Fin 2 → Nat :=
  let c0_38 : Index := 0#32
  let arg1 : BitVec 32 := BitVec.ofNat 32 (i 1).val
  let c1024_i32_37 : BitVec 32 := 1024#32
  let v85 : BitVec 32 := Scalar.muli arg1 c1024_i32_37
  let v86 : Index := Scalar.indexCast v85
  ![0, v86.toNat]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  ![c0_i32_1.toNat, v1.toNat]

def cc1_transform_6 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_7 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S4096x8 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 1 → Memref sig .tc .vmem S8x4096 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S4096x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x4096 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S21x4096 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S3072x1024 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 1 → Memref sig .tc .smem S1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .smem S1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .vmem S21x4096 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]
-- ==== ReferenceIdeal.lean ====
abbrev S64x64x21 : Shape := ⟨3, ![64, 64, 21]⟩
abbrev S64x64x3 : Shape := ⟨3, ![64, 64, 3]⟩
abbrev S_ : Shape := ⟨0, ![]⟩
abbrev S4096x21 : Shape := ⟨2, ![4096, 21]⟩
abbrev S64 : Shape := ⟨1, ![64]⟩
abbrev S64x64 : Shape := ⟨2, ![64, 64]⟩
abbrev S64x64x1 : Shape := ⟨3, ![64, 64, 1]⟩
abbrev S64x64x2 : Shape := ⟨3, ![64, 64, 2]⟩
abbrev S4096x2 : Shape := ⟨2, ![4096, 2]⟩
abbrev S4096x3 : Shape := ⟨2, ![4096, 3]⟩
abbrev S4096x5 : Shape := ⟨2, ![4096, 5]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S5x4096 : Shape := ⟨2, ![5, 4096]⟩
abbrev S2x4096 : Shape := ⟨2, ![2, 4096]⟩

abbrev nBuf : Space → Nat
  | .hbm => 288
  | .vmem => 0
  | .smem => 0
  | _ => 0

abbrev hbmTy0_0 (i : Nat) : BufTy := match i % 128 with
  | 0 => ⟨S64x64x21, .f32⟩
  | 1 => ⟨S64x64x3, .f32⟩
  | 2 => ⟨S_, .f32⟩
  | 3 => ⟨S_, .f32⟩
  | 4 => ⟨S4096x21, .f32⟩
  | 5 => ⟨S64, .f32⟩
  | 6 => ⟨S64, .f32⟩
  | 7 => ⟨S64x64, .f32⟩
  | 8 => ⟨S64x64, .f32⟩
  | 9 => ⟨S64x64x1, .f32⟩
  | 10 => ⟨S64x64x1, .f32⟩
  | 11 => ⟨S64x64x2, .f32⟩
  | 12 => ⟨S4096x2, .f32⟩
  | 13 => ⟨S4096x3, .f32⟩
  | 14 => ⟨S_, .f32⟩
  | 15 => ⟨S4096x2, .f32⟩
  | 16 => ⟨S4096x2, .f32⟩
  | 17 => ⟨S_, .f32⟩
  | 18 => ⟨S4096x3, .f32⟩
  | 19 => ⟨S4096x3, .f32⟩
  | 20 => ⟨S4096x5, .f32⟩
  | 21 => ⟨S_, .f32⟩
  | 22 => ⟨S4096x2, .f32⟩
  | 23 => ⟨S4096x2, .f32⟩
  | 24 => ⟨S4096x5, .f32⟩
  | 25 => ⟨S_, .f32⟩
  | 26 => ⟨S4096, .f32⟩
  | 27 => ⟨S4096x1, .f32⟩
  | 28 => ⟨S1x4096, .f32⟩
  | 29 => ⟨S4096x4096, .f32⟩
  | 30 => ⟨S4096x4096, .f32⟩
  | 31 => ⟨S4096x4096, .f32⟩
  | 32 => ⟨S5x4096, .f32⟩
  | 33 => ⟨S4096x4096, .f32⟩
  | 34 => ⟨S_, .f32⟩
  | 35 => ⟨S4096x4096, .f32⟩
  | 36 => ⟨S4096x4096, .f32⟩
  | 37 => ⟨S4096x4096, .f32⟩
  | 38 => ⟨S_, .f32⟩
  | 39 => ⟨S4096x4096, .f32⟩
  | 40 => ⟨S4096x4096, .f32⟩
  | 41 => ⟨S_, .f32⟩
  | 42 => ⟨S4096x4096, .f32⟩
  | 43 => ⟨S4096x4096, .f32⟩
  | 44 => ⟨S4096x4096, .f32⟩
  | 45 => ⟨S4096x4096, .i32⟩
  | 46 => ⟨S4096x4096, .i32⟩
  | 47 => ⟨S_, .i32⟩
  | 48 => ⟨S4096x4096, .i32⟩
  | 49 => ⟨S4096x4096, .i32⟩
  | 50 => ⟨S4096x4096, .i1⟩
  | 51 => ⟨S4096x4096, .f32⟩
  | 52 => ⟨S_, .f32⟩
  | 53 => ⟨S4096x4096, .f32⟩
  | 54 => ⟨S4096x4096, .f32⟩
  | 55 => ⟨S4096x4096, .f32⟩
  | 56 => ⟨S4096x2, .f32⟩
  | 57 => ⟨S_, .f32⟩
  | 58 => ⟨S4096, .f32⟩
  | 59 => ⟨S4096x1, .f32⟩
  | 60 => ⟨S1x4096, .f32⟩
  | 61 => ⟨S4096x4096, .f32⟩
  | 62 => ⟨S4096x4096, .f32⟩
  | 63 => ⟨S4096x4096, .f32⟩
  | 64 => ⟨S2x4096, .f32⟩
  | 65 => ⟨S4096x4096, .f32⟩
  | 66 => ⟨S_, .f32⟩
  | 67 => ⟨S4096x4096, .f32⟩
  | 68 => ⟨S4096x4096, .f32⟩
  | 69 => ⟨S4096x4096, .f32⟩
  | 70 => ⟨S_, .f32⟩
  | 71 => ⟨S4096x4096, .f32⟩
  | 72 => ⟨S4096x4096, .f32⟩
  | 73 => ⟨S_, .f32⟩
  | 74 => ⟨S4096x4096, .f32⟩
  | 75 => ⟨S4096x4096, .f32⟩
  | 76 => ⟨S4096x4096, .f32⟩
  | 77 => ⟨S4096x4096, .i32⟩
  | 78 => ⟨S4096x4096, .i32⟩
  | 79 => ⟨S_, .i32⟩
  | 80 => ⟨S4096x4096, .i32⟩
  | 81 => ⟨S4096x4096, .i32⟩
  | 82 => ⟨S4096x4096, .i1⟩
  | 83 => ⟨S4096x4096, .f32⟩
  | 84 => ⟨S_, .f32⟩
  | 85 => ⟨S4096x4096, .f32⟩
  | 86 => ⟨S4096x4096, .f32⟩
  | 87 => ⟨S4096x4096, .f32⟩
  | 88 => ⟨S4096, .i32⟩
  | 89 => ⟨S_, .i32⟩
  | 90 => ⟨S_, .i32⟩
  | 91 => ⟨S4096, .i32⟩
  | 92 => ⟨S4096, .i32⟩
  | 93 => ⟨S4096, .i32⟩
  | 94 => ⟨S_, .i32⟩
  | 95 => ⟨S4096, .i32⟩
  | 96 => ⟨S4096, .i1⟩
  | 97 => ⟨S4096, .i32⟩
  | 98 => ⟨S4096, .i32⟩
  | 99 => ⟨S_, .i32⟩
  | 100 => ⟨S4096, .i32⟩
  | 101 => ⟨S4096, .i1⟩
  | 102 => ⟨S4096, .i1⟩
  | 103 => ⟨S_, .i32⟩
  | 104 => ⟨S4096, .i32⟩
  | 105 => ⟨S4096, .i32⟩
  | 106 => ⟨S4096, .i32⟩
  | 107 => ⟨S4096x1, .i32⟩
  | 108 => ⟨S1x4096, .i32⟩
  | 109 => ⟨S_, .i32⟩
  | 110 => ⟨S4096x1, .i32⟩
  | 111 => ⟨S4096x1, .i1⟩
  | 112 => ⟨S_, .i32⟩
  | 113 => ⟨S1x4096, .i32⟩
  | 114 => ⟨S1x4096, .i1⟩
  | 115 => ⟨S4096x4096, .i1⟩
  | 116 => ⟨S4096x4096, .i1⟩
  | 117 => ⟨S4096x4096, .i1⟩
  | 118 => ⟨S_, .i32⟩
  | 119 => ⟨S4096x1, .i32⟩
  | 120 => ⟨S4096x1, .i1⟩
  | 121 => ⟨S_, .i32⟩
  | 122 => ⟨S1x4096, .i32⟩
  | 123 => ⟨S1x4096, .i1⟩
  | 124 => ⟨S4096x4096, .i1⟩
  | 125 => ⟨S4096x4096, .i1⟩
  | 126 => ⟨S4096x4096, .i1⟩
  | 127 => ⟨S4096x4096, .i1⟩
  | _ => ⟨S64x64x21, .f32⟩

abbrev hbmTy0_1 (i : Nat) : BufTy := match i % 128 with
  | 0 => ⟨S_, .f32⟩
  | 1 => ⟨S_, .f32⟩
  | 2 => ⟨S4096x4096, .f32⟩
  | 3 => ⟨S4096x4096, .f32⟩
  | 4 => ⟨S4096x21, .f32⟩
  | 5 => ⟨S_, .f32⟩
  | 6 => ⟨S4096, .f32⟩
  | 7 => ⟨S_, .f32⟩
  | 8 => ⟨S4096, .f32⟩
  | 9 => ⟨S4096, .f32⟩
  | 10 => ⟨S4096x1, .f32⟩
  | 11 => ⟨S4096x21, .f32⟩
  | 12 => ⟨S4096x21, .f32⟩
  | 13 => ⟨S4096x21, .f32⟩
  | 14 => ⟨S_, .f32⟩
  | 15 => ⟨S4096, .f32⟩
  | 16 => ⟨S4096x1, .f32⟩
  | 17 => ⟨S4096x21, .f32⟩
  | 18 => ⟨S4096x21, .f32⟩
  | 19 => ⟨S4096x21, .f32⟩
  | 20 => ⟨S4096x21, .f32⟩
  | 21 => ⟨S4096x21, .f32⟩
  | 22 => ⟨S4096x21, .f32⟩
  | 23 => ⟨S4096x21, .f32⟩
  | 24 => ⟨S4096x21, .f32⟩
  | 25 => ⟨S4096x21, .f32⟩
  | 26 => ⟨S_, .f32⟩
  | 27 => ⟨S4096, .f32⟩
  | 28 => ⟨S4096x1, .f32⟩
  | 29 => ⟨S4096x21, .f32⟩
  | 30 => ⟨S4096x21, .f32⟩
  | 31 => ⟨S4096x21, .f32⟩
  | 32 => ⟨S4096x21, .f32⟩
  | 33 => ⟨S_, .f32⟩
  | 34 => ⟨S4096, .f32⟩
  | 35 => ⟨S_, .f32⟩
  | 36 => ⟨S4096, .f32⟩
  | 37 => ⟨S4096, .f32⟩
  | 38 => ⟨S4096x1, .f32⟩
  | 39 => ⟨S4096x21, .f32⟩
  | 40 => ⟨S4096x21, .f32⟩
  | 41 => ⟨S4096x21, .f32⟩
  | 42 => ⟨S_, .f32⟩
  | 43 => ⟨S4096, .f32⟩
  | 44 => ⟨S4096x1, .f32⟩
  | 45 => ⟨S4096x21, .f32⟩
  | 46 => ⟨S4096x21, .f32⟩
  | 47 => ⟨S4096x21, .f32⟩
  | 48 => ⟨S4096x21, .f32⟩
  | 49 => ⟨S4096x21, .f32⟩
  | 50 => ⟨S4096x21, .f32⟩
  | 51 => ⟨S4096x21, .f32⟩
  | 52 => ⟨S4096x21, .f32⟩
  | 53 => ⟨S4096x21, .f32⟩
  | 54 => ⟨S_, .f32⟩
  | 55 => ⟨S4096, .f32⟩
  | 56 => ⟨S4096x1, .f32⟩
  | 57 => ⟨S4096x21, .f32⟩
  | 58 => ⟨S4096x21, .f32⟩
  | 59 => ⟨S4096x21, .f32⟩
  | 60 => ⟨S4096x21, .f32⟩
  | 61 => ⟨S_, .f32⟩
  | 62 => ⟨S4096, .f32⟩
  | 63 => ⟨S_, .f32⟩
  | 64 => ⟨S4096, .f32⟩
  | 65 => ⟨S4096, .f32⟩
  | 66 => ⟨S4096x1, .f32⟩
  | 67 => ⟨S4096x21, .f32⟩
  | 68 => ⟨S4096x21, .f32⟩
  | 69 => ⟨S4096x21, .f32⟩
  | 70 => ⟨S_, .f32⟩
  | 71 => ⟨S4096, .f32⟩
  | 72 => ⟨S4096x1, .f32⟩
  | 73 => ⟨S4096x21, .f32⟩
  | 74 => ⟨S4096x21, .f32⟩
  | 75 => ⟨S4096x21, .f32⟩
  | 76 => ⟨S4096x21, .f32⟩
  | 77 => ⟨S4096x21, .f32⟩
  | 78 => ⟨S4096x21, .f32⟩
  | 79 => ⟨S4096x21, .f32⟩
  | 80 => ⟨S4096x21, .f32⟩
  | 81 => ⟨S4096x21, .f32⟩
  | 82 => ⟨S_, .f32⟩
  | 83 => ⟨S4096, .f32⟩
  | 84 => ⟨S4096x1, .f32⟩
  | 85 => ⟨S4096x21, .f32⟩
  | 86 => ⟨S4096x21, .f32⟩
  | 87 => ⟨S4096x21, .f32⟩
  | 88 => ⟨S4096x21, .f32⟩
  | 89 => ⟨S_, .f32⟩
  | 90 => ⟨S4096, .f32⟩
  | 91 => ⟨S_, .f32⟩
  | 92 => ⟨S4096, .f32⟩
  | 93 => ⟨S4096, .f32⟩
  | 94 => ⟨S4096x1, .f32⟩
  | 95 => ⟨S4096x21, .f32⟩
  | 96 => ⟨S4096x21, .f32⟩
  | 97 => ⟨S4096x21, .f32⟩
  | 98 => ⟨S_, .f32⟩
  | 99 => ⟨S4096, .f32⟩
  | 100 => ⟨S4096x1, .f32⟩
  | 101 => ⟨S4096x21, .f32⟩
  | 102 => ⟨S4096x21, .f32⟩
  | 103 => ⟨S4096x21, .f32⟩
  | 104 => ⟨S4096x21, .f32⟩
  | 105 => ⟨S4096x21, .f32⟩
  | 106 => ⟨S4096x21, .f32⟩
  | 107 => ⟨S4096x21, .f32⟩
  | 108 => ⟨S4096x21, .f32⟩
  | 109 => ⟨S4096x21, .f32⟩
  | 110 => ⟨S_, .f32⟩
  | 111 => ⟨S4096, .f32⟩
  | 112 => ⟨S4096x1, .f32⟩
  | 113 => ⟨S4096x21, .f32⟩
  | 114 => ⟨S4096x21, .f32⟩
  | 115 => ⟨S4096x21, .f32⟩
  | 116 => ⟨S4096x21, .f32⟩
  | 117 => ⟨S_, .f32⟩
  | 118 => ⟨S4096, .f32⟩
  | 119 => ⟨S_, .f32⟩
  | 120 => ⟨S4096, .f32⟩
  | 121 => ⟨S4096, .f32⟩
  | 122 => ⟨S4096x1, .f32⟩
  | 123 => ⟨S4096x21, .f32⟩
  | 124 => ⟨S4096x21, .f32⟩
  | 125 => ⟨S4096x21, .f32⟩
  | 126 => ⟨S_, .f32⟩
  | 127 => ⟨S4096, .f32⟩
  | _ => ⟨S64x64x21, .f32⟩

abbrev hbmTy0_2 (i : Nat) : BufTy := match i % 128 with
  | 0 => ⟨S4096x1, .f32⟩
  | 1 => ⟨S4096x21, .f32⟩
  | 2 => ⟨S4096x21, .f32⟩
  | 3 => ⟨S4096x21, .f32⟩
  | 4 => ⟨S4096x21, .f32⟩
  | 5 => ⟨S4096x21, .f32⟩
  | 6 => ⟨S4096x21, .f32⟩
  | 7 => ⟨S4096x21, .f32⟩
  | 8 => ⟨S4096x21, .f32⟩
  | 9 => ⟨S4096x21, .f32⟩
  | 10 => ⟨S_, .f32⟩
  | 11 => ⟨S4096, .f32⟩
  | 12 => ⟨S4096x1, .f32⟩
  | 13 => ⟨S4096x21, .f32⟩
  | 14 => ⟨S4096x21, .f32⟩
  | 15 => ⟨S4096x21, .f32⟩
  | 16 => ⟨S4096x21, .f32⟩
  | 17 => ⟨S_, .f32⟩
  | 18 => ⟨S4096, .f32⟩
  | 19 => ⟨S_, .f32⟩
  | 20 => ⟨S4096, .f32⟩
  | 21 => ⟨S4096, .f32⟩
  | 22 => ⟨S4096x1, .f32⟩
  | 23 => ⟨S4096x21, .f32⟩
  | 24 => ⟨S4096x21, .f32⟩
  | 25 => ⟨S4096x21, .f32⟩
  | 26 => ⟨S_, .f32⟩
  | 27 => ⟨S4096, .f32⟩
  | 28 => ⟨S4096x1, .f32⟩
  | 29 => ⟨S4096x21, .f32⟩
  | 30 => ⟨S4096x21, .f32⟩
  | 31 => ⟨S64x64x21, .f32⟩
  | _ => ⟨S64x64x21, .f32⟩

abbrev hbmTy (i : Nat) : BufTy := match i / 128 with
  | 0 => hbmTy0_0 i
  | 1 => hbmTy0_1 i
  | 2 => hbmTy0_2 i
  | _ => ⟨S64x64x21, .f32⟩

abbrev bufTy : (tb : Table) → Fin (tcTables nBuf tb) → BufTy
  | .hbm, ⟨i, _⟩ => hbmTy i
  | _, _ => ⟨S64x64x21, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_3 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_4 : Ref sig .tc := ⟨.hbm, 38, rfl⟩
abbrev main_v29 : Ref sig .tc := ⟨.hbm, 39, rfl⟩
abbrev main_v30 : Ref sig .tc := ⟨.hbm, 40, rfl⟩
abbrev main_cst_5 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_c : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_6 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_7 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_cst_8 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_9 : Ref sig .tc := ⟨.hbm, 70, rfl⟩
abbrev main_v55 : Ref sig .tc := ⟨.hbm, 71, rfl⟩
abbrev main_v56 : Ref sig .tc := ⟨.hbm, 72, rfl⟩
abbrev main_cst_10 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_c_11 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_cst_12 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_c_13 : Ref sig .tc := ⟨.hbm, 89, rfl⟩
abbrev main_call0_v0 : Ref sig .tc := ⟨.hbm, 90, rfl⟩
abbrev main_call0_v1 : Ref sig .tc := ⟨.hbm, 91, rfl⟩
abbrev main_call0_v2 : Ref sig .tc := ⟨.hbm, 92, rfl⟩
abbrev main_call0_v3 : Ref sig .tc := ⟨.hbm, 93, rfl⟩
abbrev main_call0_v4 : Ref sig .tc := ⟨.hbm, 94, rfl⟩
abbrev main_call0_v5 : Ref sig .tc := ⟨.hbm, 95, rfl⟩
abbrev main_call0_v6 : Ref sig .tc := ⟨.hbm, 96, rfl⟩
abbrev main_call0_v7 : Ref sig .tc := ⟨.hbm, 97, rfl⟩
abbrev main_call0_v8 : Ref sig .tc := ⟨.hbm, 98, rfl⟩
abbrev main_call0_c : Ref sig .tc := ⟨.hbm, 99, rfl⟩
abbrev main_call0_v9 : Ref sig .tc := ⟨.hbm, 100, rfl⟩
abbrev main_call0_v10 : Ref sig .tc := ⟨.hbm, 101, rfl⟩
abbrev main_call0_v11 : Ref sig .tc := ⟨.hbm, 102, rfl⟩
abbrev main_call0_c_0 : Ref sig .tc := ⟨.hbm, 103, rfl⟩
abbrev main_call0_v12 : Ref sig .tc := ⟨.hbm, 104, rfl⟩
abbrev main_call0_v13 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_c_14 : Ref sig .tc := ⟨.hbm, 109, rfl⟩
abbrev main_v73 : Ref sig .tc := ⟨.hbm, 110, rfl⟩
abbrev main_v74 : Ref sig .tc := ⟨.hbm, 111, rfl⟩
abbrev main_c_15 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_c_16 : Ref sig .tc := ⟨.hbm, 118, rfl⟩
abbrev main_v80 : Ref sig .tc := ⟨.hbm, 119, rfl⟩
abbrev main_v81 : Ref sig .tc := ⟨.hbm, 120, rfl⟩
abbrev main_c_17 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_cst_18 : Ref sig .tc := ⟨.hbm, 128, rfl⟩
abbrev main_call1_v0 : Ref sig .tc := ⟨.hbm, 129, rfl⟩
abbrev main_call1_v1 : Ref sig .tc := ⟨.hbm, 130, rfl⟩
abbrev main_v88 : Ref sig .tc := ⟨.hbm, 131, rfl⟩
abbrev main_v89 : Ref sig .tc := ⟨.hbm, 132, rfl⟩
abbrev main_cst_19 : Ref sig .tc := ⟨.hbm, 133, rfl⟩
abbrev main_v90 : Ref sig .tc := ⟨.hbm, 134, rfl⟩
abbrev main_cst_20 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_cst_21 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_cst_22 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_cst_23 : Ref sig .tc := ⟨.hbm, 161, rfl⟩
abbrev main_v114 : Ref sig .tc := ⟨.hbm, 162, rfl⟩
abbrev main_cst_24 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_cst_25 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_cst_26 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩
abbrev main_v136 : Ref sig .tc := ⟨.hbm, 187, rfl⟩
abbrev main_v137 : Ref sig .tc := ⟨.hbm, 188, rfl⟩
abbrev main_cst_27 : Ref sig .tc := ⟨.hbm, 189, rfl⟩
abbrev main_v138 : Ref sig .tc := ⟨.hbm, 190, rfl⟩
abbrev main_cst_28 : Ref sig .tc := ⟨.hbm, 191, rfl⟩
abbrev main_v139 : Ref sig .tc := ⟨.hbm, 192, rfl⟩
abbrev main_v140 : Ref sig .tc := ⟨.hbm, 193, rfl⟩
abbrev main_v141 : Ref sig .tc := ⟨.hbm, 194, rfl⟩
abbrev main_v142 : Ref sig .tc := ⟨.hbm, 195, rfl⟩
abbrev main_v143 : Ref sig .tc := ⟨.hbm, 196, rfl⟩
abbrev main_v144 : Ref sig .tc := ⟨.hbm, 197, rfl⟩
abbrev main_cst_29 : Ref sig .tc := ⟨.hbm, 198, rfl⟩
abbrev main_v145 : Ref sig .tc := ⟨.hbm, 199, rfl⟩
abbrev main_v146 : Ref sig .tc := ⟨.hbm, 200, rfl⟩
abbrev main_v147 : Ref sig .tc := ⟨.hbm, 201, rfl⟩
abbrev main_v148 : Ref sig .tc := ⟨.hbm, 202, rfl⟩
abbrev main_v149 : Ref sig .tc := ⟨.hbm, 203, rfl⟩
abbrev main_v150 : Ref sig .tc := ⟨.hbm, 204, rfl⟩
abbrev main_v151 : Ref sig .tc := ⟨.hbm, 205, rfl⟩
abbrev main_v152 : Ref sig .tc := ⟨.hbm, 206, rfl⟩
abbrev main_v153 : Ref sig .tc := ⟨.hbm, 207, rfl⟩
abbrev main_v154 : Ref sig .tc := ⟨.hbm, 208, rfl⟩
abbrev main_v155 : Ref sig .tc := ⟨.hbm, 209, rfl⟩
abbrev main_cst_30 : Ref sig .tc := ⟨.hbm, 210, rfl⟩
abbrev main_v156 : Ref sig .tc := ⟨.hbm, 211, rfl⟩
abbrev main_v157 : Ref sig .tc := ⟨.hbm, 212, rfl⟩
abbrev main_v158 : Ref sig .tc := ⟨.hbm, 213, rfl⟩
abbrev main_v159 : Ref sig .tc := ⟨.hbm, 214, rfl⟩
abbrev main_v160 : Ref sig .tc := ⟨.hbm, 215, rfl⟩
abbrev main_v161 : Ref sig .tc := ⟨.hbm, 216, rfl⟩
abbrev main_cst_31 : Ref sig .tc := ⟨.hbm, 217, rfl⟩
abbrev main_v162 : Ref sig .tc := ⟨.hbm, 218, rfl⟩
abbrev main_cst_32 : Ref sig .tc := ⟨.hbm, 219, rfl⟩
abbrev main_v163 : Ref sig .tc := ⟨.hbm, 220, rfl⟩
abbrev main_v164 : Ref sig .tc := ⟨.hbm, 221, rfl⟩
abbrev main_v165 : Ref sig .tc := ⟨.hbm, 222, rfl⟩
abbrev main_v166 : Ref sig .tc := ⟨.hbm, 223, rfl⟩
abbrev main_v167 : Ref sig .tc := ⟨.hbm, 224, rfl⟩
abbrev main_v168 : Ref sig .tc := ⟨.hbm, 225, rfl⟩
abbrev main_cst_33 : Ref sig .tc := ⟨.hbm, 226, rfl⟩
abbrev main_v169 : Ref sig .tc := ⟨.hbm, 227, rfl⟩
abbrev main_v170 : Ref sig .tc := ⟨.hbm, 228, rfl⟩
abbrev main_v171 : Ref sig .tc := ⟨.hbm, 229, rfl⟩
abbrev main_v172 : Ref sig .tc := ⟨.hbm, 230, rfl⟩
abbrev main_v173 : Ref sig .tc := ⟨.hbm, 231, rfl⟩
abbrev main_v174 : Ref sig .tc := ⟨.hbm, 232, rfl⟩
abbrev main_v175 : Ref sig .tc := ⟨.hbm, 233, rfl⟩
abbrev main_v176 : Ref sig .tc := ⟨.hbm, 234, rfl⟩
abbrev main_v177 : Ref sig .tc := ⟨.hbm, 235, rfl⟩
abbrev main_v178 : Ref sig .tc := ⟨.hbm, 236, rfl⟩
abbrev main_v179 : Ref sig .tc := ⟨.hbm, 237, rfl⟩
abbrev main_cst_34 : Ref sig .tc := ⟨.hbm, 238, rfl⟩
abbrev main_v180 : Ref sig .tc := ⟨.hbm, 239, rfl⟩
abbrev main_v181 : Ref sig .tc := ⟨.hbm, 240, rfl⟩
abbrev main_v182 : Ref sig .tc := ⟨.hbm, 241, rfl⟩
abbrev main_v183 : Ref sig .tc := ⟨.hbm, 242, rfl⟩
abbrev main_v184 : Ref sig .tc := ⟨.hbm, 243, rfl⟩
abbrev main_v185 : Ref sig .tc := ⟨.hbm, 244, rfl⟩
abbrev main_cst_35 : Ref sig .tc := ⟨.hbm, 245, rfl⟩
abbrev main_v186 : Ref sig .tc := ⟨.hbm, 246, rfl⟩
abbrev main_cst_36 : Ref sig .tc := ⟨.hbm, 247, rfl⟩
abbrev main_v187 : Ref sig .tc := ⟨.hbm, 248, rfl⟩
abbrev main_v188 : Ref sig .tc := ⟨.hbm, 249, rfl⟩
abbrev main_v189 : Ref sig .tc := ⟨.hbm, 250, rfl⟩
abbrev main_v190 : Ref sig .tc := ⟨.hbm, 251, rfl⟩
abbrev main_v191 : Ref sig .tc := ⟨.hbm, 252, rfl⟩
abbrev main_v192 : Ref sig .tc := ⟨.hbm, 253, rfl⟩
abbrev main_cst_37 : Ref sig .tc := ⟨.hbm, 254, rfl⟩
abbrev main_v193 : Ref sig .tc := ⟨.hbm, 255, rfl⟩
abbrev main_v194 : Ref sig .tc := ⟨.hbm, 256, rfl⟩
abbrev main_v195 : Ref sig .tc := ⟨.hbm, 257, rfl⟩
abbrev main_v196 : Ref sig .tc := ⟨.hbm, 258, rfl⟩
abbrev main_v197 : Ref sig .tc := ⟨.hbm, 259, rfl⟩
abbrev main_v198 : Ref sig .tc := ⟨.hbm, 260, rfl⟩
abbrev main_v199 : Ref sig .tc := ⟨.hbm, 261, rfl⟩
abbrev main_v200 : Ref sig .tc := ⟨.hbm, 262, rfl⟩
abbrev main_v201 : Ref sig .tc := ⟨.hbm, 263, rfl⟩
abbrev main_v202 : Ref sig .tc := ⟨.hbm, 264, rfl⟩
abbrev main_v203 : Ref sig .tc := ⟨.hbm, 265, rfl⟩
abbrev main_cst_38 : Ref sig .tc := ⟨.hbm, 266, rfl⟩
abbrev main_v204 : Ref sig .tc := ⟨.hbm, 267, rfl⟩
abbrev main_v205 : Ref sig .tc := ⟨.hbm, 268, rfl⟩
abbrev main_v206 : Ref sig .tc := ⟨.hbm, 269, rfl⟩
abbrev main_v207 : Ref sig .tc := ⟨.hbm, 270, rfl⟩
abbrev main_v208 : Ref sig .tc := ⟨.hbm, 271, rfl⟩
abbrev main_v209 : Ref sig .tc := ⟨.hbm, 272, rfl⟩
abbrev main_cst_39 : Ref sig .tc := ⟨.hbm, 273, rfl⟩
abbrev main_v210 : Ref sig .tc := ⟨.hbm, 274, rfl⟩
abbrev main_cst_40 : Ref sig .tc := ⟨.hbm, 275, rfl⟩
abbrev main_v211 : Ref sig .tc := ⟨.hbm, 276, rfl⟩
abbrev main_v212 : Ref sig .tc := ⟨.hbm, 277, rfl⟩
abbrev main_v213 : Ref sig .tc := ⟨.hbm, 278, rfl⟩
abbrev main_v214 : Ref sig .tc := ⟨.hbm, 279, rfl⟩
abbrev main_v215 : Ref sig .tc := ⟨.hbm, 280, rfl⟩
abbrev main_v216 : Ref sig .tc := ⟨.hbm, 281, rfl⟩
abbrev main_cst_41 : Ref sig .tc := ⟨.hbm, 282, rfl⟩
abbrev main_v217 : Ref sig .tc := ⟨.hbm, 283, rfl⟩
abbrev main_v218 : Ref sig .tc := ⟨.hbm, 284, rfl⟩
abbrev main_v219 : Ref sig .tc := ⟨.hbm, 285, rfl⟩
abbrev main_v220 : Ref sig .tc := ⟨.hbm, 286, rfl⟩
abbrev main_v221 : Ref sig .tc := ⟨.hbm, 287, rfl⟩

abbrev nD : Nat := 1
abbrev τ : Topo := Topo.v7x

variable {F : FTy → Type} [FloatOps F]
-- ==== Proof.Kern.Setup.lean ====
/- The launch's set-up: the two regions' layout facts, the windows as conjunctions, the scoped buffers enumerated, and
   the program as a chain of host operations and regions. -/
module

public import proofs.«01_k».proof.Proof.Gen.KernelIdeal
public import Idealize.ShloMosaic.Lib.Pipeline.Kit
public import Idealize.ShloMosaic.Lib.Pipeline.Regions

@[expose] public section

noncomputable section

namespace Cert.KernelIdeal.Crf

open Cert.KernelIdeal.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]
/-! ## The staging cells -/

/-- Each custom_call's staging semaphores, listed window by window and slot by slot. -/
abbrev semTab : Fin 2 → List (DmaSem sig) :=
  fun | 0 => Pipeline.specSems spec0 | 1 => Pipeline.specSems spec1 | ⟨_ + 2, h⟩ => absurd h (Nat.not_lt.2 (Nat.le_add_left _ _))
/-- Within each custom_call, no two staging buffers complete on one DMA semaphore. -/
theorem semsDistinct : ∀ p : Fin 2, (semTab p).Nodup := by decide
/-- No two custom_calls' staging buffers share a DMA semaphore. -/
theorem semsDisjoint : ∀ p p' : Fin 2, p ≠ p' → (semTab p).Forall (· ∉ semTab p') := by decide
/-- The program's staging cells are pairwise distinct. -/
theorem cellOf_inj : Function.Injective (Pipeline.cellOf (nD := nD) (τ := τ) cfgs) :=
  Pipeline.cellOf_injective_of_table cfgs semTab (fun | 0 => rfl | 1 => rfl | ⟨_ + 2, h⟩ => absurd h (Nat.not_lt.2 (Nat.le_add_left _ _))) semsDistinct semsDisjoint

/-! ## custom_call 0 (pipeline 0 of @main) -/

/-- The layout the launch needs: the windows' arrays unscoped, distinct buffers, the staging buffers scoped and
    distinct, the staging semaphores scoped. -/
theorem winFacts0 : Pipeline.WinFacts spec0 := by decide
/-- No window's block is empty. -/
theorem block_pos0 : ∀ w : Fin 5, 0 < (spec0 w).block.numel := by decide
/-- The windows' arrays and the staging memrefs are whole buffers. -/
theorem arr_whole0 : ∀ w : Fin 5, (spec0 w).arr.IsWhole := fun | 0 => Memref.isWhole_whole _ | 1 => Memref.isWhole_whole _ | 2 => Memref.isWhole_whole _ | 3 => Memref.isWhole_whole _ | 4 => Memref.isWhole_whole _ | ⟨_ + 5, h⟩ => absurd h (Nat.not_lt.2 (Nat.le_add_left _ _))
theorem stage_whole0 : ∀ (w : Fin 5) (s : Fin (spec0 w).nbuf), ((spec0 w).stage s).IsWhole := fun | 0 => fun s => hstage0_0 (s.cast nbuf0_0) | 1 => fun s => hstage0_1 (s.cast nbuf0_1) | 2 => fun s => hstage0_2 (s.cast nbuf0_2) | 3 => fun s => hstage0_3 (s.cast nbuf0_3) | 4 => fun s => hstage0_4 (s.cast nbuf0_4) | ⟨_ + 5, h⟩ => absurd h (Nat.not_lt.2 (Nat.le_add_left _ _))
/-- The five, bundled: what the kit-form launch theorems (Lib/Pipeline/Kit.lean `θ_run_region*_kit`) take. -/
theorem launch0 : Pipeline.LaunchFacts (nD := nD) (τ := τ) cfgs 0 := ⟨cellOf_inj, winFacts0, block_pos0, arr_whole0, stage_whole0⟩

/-- The grid has 4 points. -/
theorem N_0 : grid0.N = 4 := by decide
/-- Point 0. -/
def t0_0 : Fin grid0.N := ⟨0, by rw [N_0]; decide⟩
/-- Point 1. -/
def t0_1 : Fin grid0.N := ⟨1, by rw [N_0]; decide⟩
/-- Point 2. -/
def t0_2 : Fin grid0.N := ⟨2, by rw [N_0]; decide⟩
/-- Point 3. -/
def t0_3 : Fin grid0.N := ⟨3, by rw [N_0]; decide⟩
/-- Every point is one of them. -/
theorem fin_N0 (t : Fin grid0.N) : t = t0_0 ∨ t = t0_1 ∨ t = t0_2 ∨ t = t0_3 := by
  obtain ⟨t, ht⟩ := t; have := N_0; simp only [t0_0, t0_1, t0_2, t0_3, Fin.mk.injEq]; omega

/-- The windows conjoined one by one. -/
theorem bigSep_W0 {M : Type} [URA M] (Φ : Fin 5 → sProp M) : bigSep Finset.univ Φ = iprop(Φ (0 : Fin 5) ∗ Φ (1 : Fin 5) ∗ Φ (2 : Fin 5) ∗ Φ (3 : Fin 5) ∗ Φ (4 : Fin 5)) :=
  bigSep_univ_eq_bigSepL [(0 : Fin 5), (1 : Fin 5), (2 : Fin 5), (3 : Fin 5), (4 : Fin 5)] (by decide) (by decide) Φ
/-- The core's scoped buffers that are no staging buffer of custom_call 0, each whole at some contents:
    `cc1_stg0_0`, `cc1_stg1_0`, `cc1_stg2_0`, `cc1_stg3_0`, `cc1_stg4_0`, `cc1_stg5_0`, `cc1_stg5_1`, `cc1_stg8_0`, `cc1_scratch0`, `cc1_scratch1`, `cc1_scratch2`, `cc1_stg6_0`, `cc1_stg7_0`. -/
theorem scopedRest0_eq {Ix : Type} [DecidableEq Ix] {Val : EltTy → Type} {Name : Type} [DecidableEq Name] {U : Type} [URA U] {Lvl : Type} (c : Dev nD) :
    (Pipeline.scopedRest (Ix := Ix) (Name := Name) (U := U) (Lvl := Lvl) (Val := Val) spec0 c : sProp (MT nD τ sig Ix Val Name U Lvl))
      = iprop((∃ f : Buf Val ((c : Thread nD τ).loc cc1_stg0_0), ((c : Thread nD τ).loc cc1_stg0_0) ↦{fullShare} f) ∗ (∃ f : Buf Val ((c : Thread nD τ).loc cc1_stg1_0), ((c : Thread nD τ).loc cc1_stg1_0) ↦{fullShare} f) ∗ (∃ f : Buf Val ((c : Thread nD τ).loc cc1_stg2_0), ((c : Thread nD τ).loc cc1_stg2_0) ↦{fullShare} f) ∗ (∃ f : Buf Val ((c : Thread nD τ).loc cc1_stg3_0), ((c : Thread nD τ).loc cc1_stg3_0) ↦{fullShare} f) ∗ (∃ f : Buf Val ((c : Thread nD τ).loc cc1_stg4_0), ((c : Thread nD τ).loc cc1_stg4_0) ↦{fullShare} f) ∗ (∃ f : Buf Val ((c : Thread nD τ).loc cc1_stg5_0), ((c : Thread nD τ).loc cc1_stg5_0) ↦{fullShare} f) ∗ (∃ f : Buf Val ((c : Thread nD τ).loc cc1_stg5_1), ((c : Thread nD τ).loc cc1_stg5_1) ↦{fullShare} f) ∗ (∃ f : Buf Val ((c : Thread nD τ).loc cc1_stg8_0), ((c : Thread nD τ).loc cc1_stg8_0) ↦{fullShare} f) ∗ (∃ f : Buf Val ((c : Thread nD τ).loc cc1_scratch0), ((c : Thread nD τ).loc cc1_scratch0) ↦{fullShare} f) ∗ (∃ f : Buf Val ((c : Thread nD τ).loc cc1_scratch1), ((c : Thread nD τ).loc cc1_scratch1) ↦{fullShare} f) ∗ (∃ f : Buf Val ((c : Thread nD τ).loc cc1_scratch2), ((c : Thread nD τ).loc cc1_scratch2) ↦{fullShare} f) ∗ (∃ f : Buf Val ((c : Thread nD τ).loc cc1_stg6_0), ((c : Thread nD τ).loc cc1_stg6_0) ↦{fullShare} f) ∗ (∃ f : Buf Val ((c : Thread nD τ).loc cc1_stg7_0), ((c : Thread nD τ).loc cc1_stg7_0) ↦{fullShare} f)) :=
  Pipeline.scopedRest_eq_of_list spec0 c [cc1_stg0_0, cc1_stg1_0, cc1_stg2_0, cc1_stg3_0, cc1_stg4_0, cc1_stg5_0, cc1_stg5_1, cc1_stg8_0, cc1_scratch0, cc1_scratch1, cc1_scratch2, cc1_stg6_0, cc1_stg7_0] (by decide) (by decide)
-- the unscoped rest of custom_call 0 is 51 buffers: not enumerated (routed whole, as `Pipeline.unscopedRest`)

/-! ## custom_call 1 (pipeline 1 of @main) -/

/-- The layout the launch needs: the windows' arrays unscoped, distinct buffers, the staging buffers scoped and
    distinct, the staging semaphores scoped. -/
theorem winFacts1 : Pipeline.WinFacts spec1 := by decide
/-- No window's block is empty. -/
theorem block_pos1 : ∀ w : Fin 9, 0 < (spec1 w).block.numel := by decide
/-- The windows' arrays and the staging memrefs are whole buffers. -/
theorem arr_whole1 : ∀ w : Fin 9, (spec1 w).arr.IsWhole := fun | 0 => Memref.isWhole_whole _ | 1 => Memref.isWhole_whole _ | 2 => Memref.isWhole_whole _ | 3 => Memref.isWhole_whole _ | 4 => Memref.isWhole_whole _ | 5 => Memref.isWhole_whole _ | 6 => Memref.isWhole_whole _ | 7 => Memref.isWhole_whole _ | 8 => Memref.isWhole_whole _ | ⟨_ + 9, h⟩ => absurd h (Nat.not_lt.2 (Nat.le_add_left _ _))
theorem stage_whole1 : ∀ (w : Fin 9) (s : Fin (spec1 w).nbuf), ((spec1 w).stage s).IsWhole := fun | 0 => fun s => hstage1_0 (s.cast nbuf1_0) | 1 => fun s => hstage1_1 (s.cast nbuf1_1) | 2 => fun s => hstage1_2 (s.cast nbuf1_2) | 3 => fun s => hstage1_3 (s.cast nbuf1_3) | 4 => fun s => hstage1_4 (s.cast nbuf1_4) | 5 => fun s => hstage1_5 (s.cast nbuf1_5) | 6 => fun s => hstage1_6 (s.cast nbuf1_6) | 7 => fun s => hstage1_7 (s.cast nbuf1_7) | 8 => fun s => hstage1_8 (s.cast nbuf1_8) | ⟨_ + 9, h⟩ => absurd h (Nat.not_lt.2 (Nat.le_add_left _ _))
/-- The five, bundled: what the kit-form launch theorems (Lib/Pipeline/Kit.lean `θ_run_region*_kit`) take. -/
theorem launch1 : Pipeline.LaunchFacts (nD := nD) (τ := τ) cfgs 1 := ⟨cellOf_inj, winFacts1, block_pos1, arr_whole1, stage_whole1⟩

/-- The grid has 24 points. -/
theorem N_1 : grid1.N = 24 := by decide

/-- The windows conjoined one by one. -/
theorem bigSep_W1 {M : Type} [URA M] (Φ : Fin 9 → sProp M) : bigSep Finset.univ Φ = iprop(Φ (0 : Fin 9) ∗ Φ (1 : Fin 9) ∗ Φ (2 : Fin 9) ∗ Φ (3 : Fin 9) ∗ Φ (4 : Fin 9) ∗ Φ (5 : Fin 9) ∗ Φ (6 : Fin 9) ∗ Φ (7 : Fin 9) ∗ Φ (8 : Fin 9)) :=
  bigSep_univ_eq_bigSepL [(0 : Fin 9), (1 : Fin 9), (2 : Fin 9), (3 : Fin 9), (4 : Fin 9), (5 : Fin 9), (6 : Fin 9), (7 : Fin 9), (8 : Fin 9)] (by decide) (by decide) Φ
/-- The core's scoped buffers that are no staging buffer of custom_call 1, each whole at some contents:
    `cc0_stg0_0`, `cc0_stg1_0`, `cc0_stg2_0`, `cc0_stg3_0`, `cc0_stg4_0`, `cc0_stg4_1`, `cc1_scratch0`, `cc1_scratch1`, `cc1_scratch2`. -/
theorem scopedRest1_eq {Ix : Type} [DecidableEq Ix] {Val : EltTy → Type} {Name : Type} [DecidableEq Name] {U : Type} [URA U] {Lvl : Type} (c : Dev nD) :
    (Pipeline.scopedRest (Ix := Ix) (Name := Name) (U := U) (Lvl := Lvl) (Val := Val) spec1 c : sProp (MT nD τ sig Ix Val Name U Lvl))
      = iprop((∃ f : Buf Val ((c : Thread nD τ).loc cc0_stg0_0), ((c : Thread nD τ).loc cc0_stg0_0) ↦{fullShare} f) ∗ (∃ f : Buf Val ((c : Thread nD τ).loc cc0_stg1_0), ((c : Thread nD τ).loc cc0_stg1_0) ↦{fullShare} f) ∗ (∃ f : Buf Val ((c : Thread nD τ).loc cc0_stg2_0), ((c : Thread nD τ).loc cc0_stg2_0) ↦{fullShare} f) ∗ (∃ f : Buf Val ((c : Thread nD τ).loc cc0_stg3_0), ((c : Thread nD τ).loc cc0_stg3_0) ↦{fullShare} f) ∗ (∃ f : Buf Val ((c : Thread nD τ).loc cc0_stg4_0), ((c : Thread nD τ).loc cc0_stg4_0) ↦{fullShare} f) ∗ (∃ f : Buf Val ((c : Thread nD τ).loc cc0_stg4_1), ((c : Thread nD τ).loc cc0_stg4_1) ↦{fullShare} f) ∗ (∃ f : Buf Val ((c : Thread nD τ).loc cc1_scratch0), ((c : Thread nD τ).loc cc1_scratch0) ↦{fullShare} f) ∗ (∃ f : Buf Val ((c : Thread nD τ).loc cc1_scratch1), ((c : Thread nD τ).loc cc1_scratch1) ↦{fullShare} f) ∗ (∃ f : Buf Val ((c : Thread nD τ).loc cc1_scratch2), ((c : Thread nD τ).loc cc1_scratch2) ↦{fullShare} f)) :=
  Pipeline.scopedRest_eq_of_list spec1 c [cc0_stg0_0, cc0_stg1_0, cc0_stg2_0, cc0_stg3_0, cc0_stg4_0, cc0_stg4_1, cc1_scratch0, cc1_scratch1, cc1_scratch2] (by decide) (by decide)
-- the unscoped rest of custom_call 1 is 47 buffers: not enumerated (routed whole, as `Pipeline.unscopedRest`)

/-! ## @main as segments and as a chain of items (Lib/Pipeline/Regions.lean `θ_run_regions_kit`, `Pipeline.chain`) -/

/-- 46 host operations of @kernel (main_call0), in order. -/
abbrev hostOps0 : List (HloOp τ sig (Elt F)) :=
  ( StableHlo.TRef.reshape (.of main_arg0 : StableHlo.TRef sig ⟨S64x64x21, .f32⟩) (.of main_call0_v0 : StableHlo.TRef sig ⟨S4096x21, .f32⟩) (rfl : (.f32 : EltTy) = .f32) shapeCasts_S64x64x21_S4096x21
  :: StableHlo.TRef.unary (.of main_call0_v0 : StableHlo.TRef sig ⟨S4096x21, .f32⟩) (.of main_call0_v1 : StableHlo.TRef sig ⟨S21x4096, .f32⟩) (transpose S21x4096 [1, 0] · transposes_S4096x21_S21x4096_1_0)
  :: StableHlo.TRef.nullary (.of main_call0_v2 : StableHlo.TRef sig ⟨S64, .f32⟩) (sitofp .f32 (iotaInDim S64 32 0))
  :: StableHlo.TRef.nullary (.of main_call0_v3 : StableHlo.TRef sig ⟨S64, .f32⟩) (sitofp .f32 (iotaInDim S64 32 0))
  :: StableHlo.TRef.unary (.of main_call0_v2 : StableHlo.TRef sig ⟨S64, .f32⟩) (.of main_call0_v4 : StableHlo.TRef sig ⟨S64x64, .f32⟩) (broadcastInDim S64x64 ![0] bcast_S64_S64x64_0)
  :: StableHlo.TRef.unary (.of main_call0_v3 : StableHlo.TRef sig ⟨S64, .f32⟩) (.of main_call0_v5 : StableHlo.TRef sig ⟨S64x64, .f32⟩) (broadcastInDim S64x64 ![1] bcast_S64_S64x64_1)
  :: StableHlo.TRef.unary (.of main_call0_v5 : StableHlo.TRef sig ⟨S64x64, .f32⟩) (.of main_call0_v6 : StableHlo.TRef sig ⟨S64x64x1, .f32⟩) (broadcastInDim S64x64x1 ![0, 1] bcast_S64x64_S64x64x1_0_1)
  :: StableHlo.TRef.unary (.of main_call0_v4 : StableHlo.TRef sig ⟨S64x64, .f32⟩) (.of main_call0_v7 : StableHlo.TRef sig ⟨S64x64x1, .f32⟩) (broadcastInDim S64x64x1 ![0, 1] bcast_S64x64_S64x64x1_0_1)
  :: StableHlo.TRef.binary (.of main_call0_v6 : StableHlo.TRef sig ⟨S64x64x1, .f32⟩) (.of main_call0_v7 : StableHlo.TRef sig ⟨S64x64x1, .f32⟩) (.of main_call0_v8 : StableHlo.TRef sig ⟨S64x64x2, .f32⟩) (fun a b => concatenate S64x64x2 2 [⟨S64x64x1, a⟩, ⟨S64x64x1, b⟩] concatenates_S64x64x1_S64x64x1_S64x64x2_d2)
  :: StableHlo.TRef.reshape (.of main_call0_v8 : StableHlo.TRef sig ⟨S64x64x2, .f32⟩) (.of main_call0_v9 : StableHlo.TRef sig ⟨S4096x2, .f32⟩) (rfl : (.f32 : EltTy) = .f32) shapeCasts_S64x64x2_S4096x2
  :: StableHlo.TRef.reshape (.of main_arg1 : StableHlo.TRef sig ⟨S64x64x3, .f32⟩) (.of main_call0_v10 : StableHlo.TRef sig ⟨S4096x3, .f32⟩) (rfl : (.f32 : EltTy) = .f32) shapeCasts_S64x64x3_S4096x3
  :: StableHlo.TRef.nullary (.of main_call0_cst : StableHlo.TRef sig ⟨S_, .f32⟩) (constant S_ .f32 0x42A00000#32)
  :: StableHlo.TRef.unary (.of main_call0_cst : StableHlo.TRef sig ⟨S_, .f32⟩) (.of main_call0_v11 : StableHlo.TRef sig ⟨S4096x2, .f32⟩) (broadcastInDim S4096x2 ![] bcast_S_S4096x2)
  :: StableHlo.TRef.binary (.of main_call0_v9 : StableHlo.TRef sig ⟨S4096x2, .f32⟩) (.of main_call0_v11 : StableHlo.TRef sig ⟨S4096x2, .f32⟩) (.of main_call0_v12 : StableHlo.TRef sig ⟨S4096x2, .f32⟩) Host.divf
  :: StableHlo.TRef.nullary (.of main_call0_cst_0 : StableHlo.TRef sig ⟨S_, .f32⟩) (constant S_ .f32 0x41500000#32)
  :: StableHlo.TRef.unary (.of main_call0_cst_0 : StableHlo.TRef sig ⟨S_, .f32⟩) (.of main_call0_v13 : StableHlo.TRef sig ⟨S4096x3, .f32⟩) (broadcastInDim S4096x3 ![] bcast_S_S4096x3)
  :: StableHlo.TRef.binary (.of main_call0_v10 : StableHlo.TRef sig ⟨S4096x3, .f32⟩) (.of main_call0_v13 : StableHlo.TRef sig ⟨S4096x3, .f32⟩) (.of main_call0_v14 : StableHlo.TRef sig ⟨S4096x3, .f32⟩) Host.divf
  :: StableHlo.TRef.binary (.of main_call0_v12 : StableHlo.TRef sig ⟨S4096x2, .f32⟩) (.of main_call0_v14 : StableHlo.TRef sig ⟨S4096x3, .f32⟩) (.of main_call0_v15 : StableHlo.TRef sig ⟨S4096x5, .f32⟩) (fun a b => concatenate S4096x5 1 [⟨S4096x2, a⟩, ⟨S4096x3, b⟩] concatenates_S4096x2_S4096x3_S4096x5_d1)
  :: StableHlo.TRef.nullary (.of main_call0_cst_1 : StableHlo.TRef sig ⟨S_, .f32⟩) (constant S_ .f32 0x40400000#32)
  :: StableHlo.TRef.unary (.of main_call0_cst_1 : StableHlo.TRef sig ⟨S_, .f32⟩) (.of main_call0_v16 : StableHlo.TRef sig ⟨S4096x2, .f32⟩) (broadcastInDim S4096x2 ![] bcast_S_S4096x2)
  :: StableHlo.TRef.binary (.of main_call0_v9 : StableHlo.TRef sig ⟨S4096x2, .f32⟩) (.of main_call0_v16 : StableHlo.TRef sig ⟨S4096x2, .f32⟩) (.of main_call0_v17 : StableHlo.TRef sig ⟨S4096x2, .f32⟩) Host.divf
  :: StableHlo.TRef.nullary (.of main_call0_cst_2 : StableHlo.TRef sig ⟨S_, .f32⟩) (constant S_ .f32 0x00000000#32)
  :: StableHlo.TRef.unary (.of main_call0_cst_2 : StableHlo.TRef sig ⟨S_, .f32⟩) (.of main_call0_v18 : StableHlo.TRef sig ⟨S4096x3, .f32⟩) (broadcastInDim S4096x3 ![] bcast_S_S4096x3)
  :: StableHlo.TRef.nullary (.of main_call0_cst_3 : StableHlo.TRef sig ⟨S_, .f32⟩) (constant S_ .f32 0x00000000#32)
  :: StableHlo.TRef.unary (.of main_call0_cst_3 : StableHlo.TRef sig ⟨S_, .f32⟩) (.of main_call0_v19 : StableHlo.TRef sig ⟨S4096x5, .f32⟩) (broadcastInDim S4096x5 ![] bcast_S_S4096x5)
  :: StableHlo.TRef.binary (.of main_call0_v15 : StableHlo.TRef sig ⟨S4096x5, .f32⟩) (.of main_call0_v18 : StableHlo.TRef sig ⟨S4096x3, .f32⟩) (.of main_call0_v20 : StableHlo.TRef sig ⟨S4096x8, .f32⟩) (fun a b => concatenate S4096x8 1 [⟨S4096x5, a⟩, ⟨S4096x3, b⟩] concatenates_S4096x5_S4096x3_S4096x8_d1)
  :: StableHlo.TRef.unary (.of main_call0_v18 : StableHlo.TRef sig ⟨S4096x3, .f32⟩) (.of main_call0_v21 : StableHlo.TRef sig ⟨S4096x1, .f32⟩) (extractStridedSlice S4096x1 ![0, 0] · slices_S4096x3_S4096x1_0_0)
  :: StableHlo.TRef.nary (Ts := ![⟨S4096x5, .f32⟩, ⟨S4096x2, .f32⟩, ⟨S4096x1, .f32⟩]) (Fin.cons (.of main_call0_v19 : StableHlo.TRef sig ⟨S4096x5, .f32⟩) (Fin.cons (.of main_call0_v17 : StableHlo.TRef sig ⟨S4096x2, .f32⟩) (Fin.cons (.of main_call0_v21 : StableHlo.TRef sig ⟨S4096x1, .f32⟩) (fun k => k.elim0)))) (.of main_call0_v22 : StableHlo.TRef sig ⟨S4096x8, .f32⟩) (fun u => (concatenate S4096x8 1 [⟨S4096x5, (u 0 : (⟨S4096x5, .f32⟩ : BufTy).Contents (Elt F))⟩, ⟨S4096x2, (u 1 : (⟨S4096x2, .f32⟩ : BufTy).Contents (Elt F))⟩, ⟨S4096x1, (u 2 : (⟨S4096x1, .f32⟩ : BufTy).Contents (Elt F))⟩] concatenates_S4096x5_S4096x2_S4096x1_S4096x8_d1 : (⟨S4096x8, .f32⟩ : BufTy).Contents (Elt F)))
  :: StableHlo.TRef.binary (.of main_call0_v20 : StableHlo.TRef sig ⟨S4096x8, .f32⟩) (.of main_call0_v22 : StableHlo.TRef sig ⟨S4096x8, .f32⟩) (.of main_call0_v23 : StableHlo.TRef sig ⟨S4096x8, .f32⟩) addf
  :: StableHlo.TRef.unary (.of main_call0_v23 : StableHlo.TRef sig ⟨S4096x8, .f32⟩) (.of main_call0_v24 : StableHlo.TRef sig ⟨S8x4096, .f32⟩) (transpose S8x4096 [1, 0] · transposes_S4096x8_S8x4096_1_0)
  :: StableHlo.TRef.binary (.of main_call0_v15 : StableHlo.TRef sig ⟨S4096x5, .f32⟩) (.of main_call0_v15 : StableHlo.TRef sig ⟨S4096x5, .f32⟩) (.of main_call0_v25 : StableHlo.TRef sig ⟨S4096x5, .f32⟩) mulf
  :: StableHlo.TRef.nullary (.of main_call0_cst_4 : StableHlo.TRef sig ⟨S_, .f32⟩) (constant S_ .f32 0x00000000#32)
  :: StableHlo.TRef.binary (.of main_call0_v25 : StableHlo.TRef sig ⟨S4096x5, .f32⟩) (.of main_call0_cst_4 : StableHlo.TRef sig ⟨S_, .f32⟩) (.of main_call0_v26 : StableHlo.TRef sig ⟨S4096, .f32⟩) (fun x v => Host.reduceAdd x v reducesTo_S4096x5_S4096_d1 h_S_)
  :: StableHlo.TRef.nullary (.of main_call0_cst_5 : StableHlo.TRef sig ⟨S_, .f32⟩) (constant S_ .f32 0xBF000000#32)
  :: StableHlo.TRef.unary (.of main_call0_cst_5 : StableHlo.TRef sig ⟨S_, .f32⟩) (.of main_call0_v27 : StableHlo.TRef sig ⟨S4096, .f32⟩) (broadcastInDim S4096 ![] bcast_S_S4096)
  :: StableHlo.TRef.binary (.of main_call0_v27 : StableHlo.TRef sig ⟨S4096, .f32⟩) (.of main_call0_v26 : StableHlo.TRef sig ⟨S4096, .f32⟩) (.of main_call0_v28 : StableHlo.TRef sig ⟨S4096, .f32⟩) mulf
  :: StableHlo.TRef.binary (.of main_call0_v17 : StableHlo.TRef sig ⟨S4096x2, .f32⟩) (.of main_call0_v17 : StableHlo.TRef sig ⟨S4096x2, .f32⟩) (.of main_call0_v29 : StableHlo.TRef sig ⟨S4096x2, .f32⟩) mulf
  :: StableHlo.TRef.nullary (.of main_call0_cst_6 : StableHlo.TRef sig ⟨S_, .f32⟩) (constant S_ .f32 0x00000000#32)
  :: StableHlo.TRef.binary (.of main_call0_v29 : StableHlo.TRef sig ⟨S4096x2, .f32⟩) (.of main_call0_cst_6 : StableHlo.TRef sig ⟨S_, .f32⟩) (.of main_call0_v30 : StableHlo.TRef sig ⟨S4096, .f32⟩) (fun x v => Host.reduceAdd x v reducesTo_S4096x2_S4096_d1 h_S_)
  :: StableHlo.TRef.nullary (.of main_call0_cst_7 : StableHlo.TRef sig ⟨S_, .f32⟩) (constant S_ .f32 0xBF000000#32)
  :: StableHlo.TRef.unary (.of main_call0_cst_7 : StableHlo.TRef sig ⟨S_, .f32⟩) (.of main_call0_v31 : StableHlo.TRef sig ⟨S4096, .f32⟩) (broadcastInDim S4096 ![] bcast_S_S4096)
  :: StableHlo.TRef.binary (.of main_call0_v31 : StableHlo.TRef sig ⟨S4096, .f32⟩) (.of main_call0_v30 : StableHlo.TRef sig ⟨S4096, .f32⟩) (.of main_call0_v32 : StableHlo.TRef sig ⟨S4096, .f32⟩) mulf
  :: StableHlo.TRef.reshape (.of main_arg2 : StableHlo.TRef sig ⟨S_, .f32⟩) (.of main_call0_v33 : StableHlo.TRef sig ⟨S1, .f32⟩) (rfl : (.f32 : EltTy) = .f32) shapeCasts_S_S1
  :: StableHlo.TRef.reshape (.of main_arg3 : StableHlo.TRef sig ⟨S_, .f32⟩) (.of main_call0_v34 : StableHlo.TRef sig ⟨S1, .f32⟩) (rfl : (.f32 : EltTy) = .f32) shapeCasts_S_S1
  :: StableHlo.TRef.unary (.of main_call0_v32 : StableHlo.TRef sig ⟨S4096, .f32⟩) (.of main_call0_v35 : StableHlo.TRef sig ⟨S4096x1, .f32⟩) (broadcastInDim S4096x1 ![0] bcast_S4096_S4096x1_0)
  :: StableHlo.TRef.unary (.of main_call0_v32 : StableHlo.TRef sig ⟨S4096, .f32⟩) (.of main_call0_v36 : StableHlo.TRef sig ⟨S1x4096, .f32⟩) (broadcastInDim S1x4096 ![1] bcast_S4096_S1x4096_1)
  :: [] )
/-- Each touches TensorCore references only (`HostSeg.ofOps` over `StableHlo.tcRefs`, or a subset by `sub_ucRefs`). -/
theorem hostOps0_sub : (hostOps0 : List (HloOp τ sig (Elt F))).Forall fun op => op.bufs ⊆ StableHlo.tcRefs τ sig :=
  ⟨StableHlo.reshape_bufs_sub .., StableHlo.unary_bufs_sub .., StableHlo.nullary_bufs_sub .., StableHlo.nullary_bufs_sub .., StableHlo.unary_bufs_sub .., StableHlo.unary_bufs_sub .., StableHlo.unary_bufs_sub .., StableHlo.unary_bufs_sub .., StableHlo.binary_bufs_sub .., StableHlo.reshape_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.nullary_bufs_sub .., StableHlo.unary_bufs_sub .., StableHlo.binary_bufs_sub .., StableHlo.unary_bufs_sub .., StableHlo.nary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.binary_bufs_sub .., StableHlo.binary_bufs_sub .., StableHlo.nullary_bufs_sub .., StableHlo.binary_bufs_sub .., StableHlo.nullary_bufs_sub .., StableHlo.unary_bufs_sub .., StableHlo.binary_bufs_sub .., StableHlo.reshape_bufs_sub .., StableHlo.reshape_bufs_sub .., StableHlo.unary_bufs_sub .., StableHlo.unary_bufs_sub ..⟩
/-- 2 host operations of @kernel (main_call0), in order. -/
abbrev hostOps1 : List (HloOp τ sig (Elt F)) :=
  [ StableHlo.TRef.unary (.of main_call0_v28 : StableHlo.TRef sig ⟨S4096, .f32⟩) (.of main_call0_v38 : StableHlo.TRef sig ⟨S4096x1, .f32⟩) (broadcastInDim S4096x1 ![0] bcast_S4096_S4096x1_0),
    StableHlo.TRef.unary (.of main_call0_v28 : StableHlo.TRef sig ⟨S4096, .f32⟩) (.of main_call0_v39 : StableHlo.TRef sig ⟨S1x4096, .f32⟩) (broadcastInDim S1x4096 ![1] bcast_S4096_S1x4096_1) ]
/-- Each touches TensorCore references only (`HostSeg.ofOps` over `StableHlo.tcRefs`, or a subset by `sub_ucRefs`). -/
theorem hostOps1_sub : (hostOps1 : List (HloOp τ sig (Elt F))).Forall fun op => op.bufs ⊆ StableHlo.tcRefs τ sig :=
  ⟨StableHlo.unary_bufs_sub .., StableHlo.unary_bufs_sub ..⟩
/-- 2 host operations of @kernel (main_call0), in order. -/
abbrev hostOps2 : List (HloOp τ sig (Elt F)) :=
  [ StableHlo.TRef.unary (.of main_call0_v40 : StableHlo.TRef sig ⟨S21x4096, .f32⟩) (.of main_call0_v41 : StableHlo.TRef sig ⟨S4096x21, .f32⟩) (transpose S4096x21 [1, 0] · transposes_S21x4096_S4096x21_1_0),
    StableHlo.TRef.reshape (.of main_call0_v41 : StableHlo.TRef sig ⟨S4096x21, .f32⟩) (.of main_v0 : StableHlo.TRef sig ⟨S64x64x21, .f32⟩) (rfl : (.f32 : EltTy) = .f32) shapeCasts_S4096x21_S64x64x21 ]
/-- Each touches TensorCore references only (`HostSeg.ofOps` over `StableHlo.tcRefs`, or a subset by `sub_ucRefs`). -/
theorem hostOps2_sub : (hostOps2 : List (HloOp τ sig (Elt F))).Forall fun op => op.bufs ⊆ StableHlo.tcRefs τ sig :=
  ⟨StableHlo.unary_bufs_sub .., StableHlo.reshape_bufs_sub ..⟩
/-- This statement, from @kernel (main_call0), is the chain of its own items: each stretch of the function's operations aligned
    one at a time, every other item taken whole, then `chain_rfl`. -/
theorem main_chain_main_call0 : fn_kernel.body (F := F) (.of main_arg0) (.of main_arg1) (.of main_arg2) (.of main_arg3) main_call0 = (Pipeline.chain
  [ StableHlo.seq hostOps0,
    Prog.lift (.customCall (Pipeline.entry 0) ()),
    StableHlo.seq hostOps1,
    Prog.lift (.customCall (Pipeline.entry 1) ()),
    StableHlo.seq hostOps2 ] : Prog (TpuEff nD τ sig (Elt F) (Pipeline.Sig Λ₀ (Fin 2) fun p => (pcfgs (F := F) p).Adm) .tc) PUnit) := by
  rewrite [StableHlo.chain_seq_cons, Pipeline.chain_cons, StableHlo.chain_seq_cons, Pipeline.chain_cons, StableHlo.chain_seq_cons]
  chain_rfl

/-- `main_chain` with each call that gives several items as one item, so that every statement has its own item. -/
theorem main_chain_calls (c : Dev nD) : main (F := F) c = (Pipeline.chain
  [ fn_kernel.body (F := F) (.of main_arg0) (.of main_arg1) (.of main_arg2) (.of main_arg3) main_call0 ] : Prog (TpuEff nD τ sig (Elt F) (Pipeline.Sig Λ₀ (Fin 2) fun p => (pcfgs (F := F) p).Adm) .tc) PUnit) := by
  rewrite [Pipeline.chain_cons]
  chain_rfl

/-- `main` is the chain of its items (`Pipeline.chain`): operation stretches, regions, loops and branches in
    order, a module-local function called from it a stretch of its own or several items. It follows from
    `main_chain_calls`, in which each call that gives several items is one item, and from each such call's own chain, by
    the monad laws. -/
theorem main_chain (c : Dev nD) : main (F := F) c = (Pipeline.chain
  [ StableHlo.seq hostOps0,
    Prog.lift (.customCall (Pipeline.entry 0) ()),
    StableHlo.seq hostOps1,
    Prog.lift (.customCall (Pipeline.entry 1) ()),
    StableHlo.seq hostOps2 ] : Prog (TpuEff nD τ sig (Elt F) (Pipeline.Sig Λ₀ (Fin 2) fun p => (pcfgs (F := F) p).Adm) .tc) PUnit) := by
  rewrite [main_chain_calls, main_chain_main_call0]
  simp only [Pipeline.chain, Pipeline.chainK, bind_assoc, pure_bind, bind_pure_unit]

end Cert.KernelIdeal.Crf

end
-- ==== Proof.Kern.Body0.lean ====
module

public import proofs.«01_k».proof.Proof.Kern.Setup
public import proofs.«01_k».proof.Proof.Gen.KernelIdeal.Skeleton
public import proofs.«01_k».proof.Proof.Gen.KernelIdeal.Points
public import Idealize.ShloMosaic.Lib.Pipeline.FrameBody
public import Idealize.ShloMosaic.Lib.Tactic
public import Idealize.ShloMosaic.Lib.VecWindow
public import Idealize.ShloMosaic.Lib.WholeRead

/-! What one grid point of the first region does to the buffers it works on. -/

@[expose] public section

set_option maxRecDepth 16384

noncomputable section

namespace Cert.KernelIdeal.Crf

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The box of an array at offsets `off`, as the body's load reads it. -/
def box {s : Shape} {e : EltTy} (X : s.Idx → Elt F e) (off size : Fin s.rank → ℕ) (inb : ∀ a, off a + size a ≤ s.size a) :
    (⟨s.rank, size⟩ : Shape).Idx → Elt F e :=
  fun x => X ((Rect.unit (s := s) off size inb).emb x)

/-- A load of a box from a whole buffer that reads `X` gives that box of `X`. -/
theorem readAt_box {s : Shape} {e : EltTy} {m : Memref sig .tc .vmem s e} (h : m.IsWhole) (X : s.Idx → Elt F e)
    (off size : Fin s.rank → ℕ) (inb : ∀ a, off a + size a ≤ s.size a) :
    View.readAt (Elt F) m.view (Rect.unit (s := s) off size inb).toLoadRect (h.unread X) = box X off size inb :=
  funext fun x => h.readAt_unread X _ x

set_option maxHeartbeats 1000000 in
/-- One point of the first region: it reads a window's rows of the scaled features and stores the Gaussian block. -/
theorem run0 (c : Dev nD) (i : grid0.Coords) (arg1 : Memref sig .tc .vmem S4096x8 .f32) (harg1 : arg1.IsWhole) (arg2 : Memref sig .tc .vmem S8x4096 .f32) (harg2 : arg2.IsWhole) (arg3 : Memref sig .tc .vmem S4096x1 .f32) (harg3 : arg3.IsWhole) (arg4 : Memref sig .tc .vmem S1x4096 .f32) (harg4 : arg4.IsWhole) (arg5 : Memref sig .tc .vmem S3072x1024 .bf16) (harg5 : arg5.IsWhole)
    (x0 : Vec F S4096x8 .f32) (x1 : Vec F S8x4096 .f32) (x2 : Vec F S4096x1 .f32) (x3 : Vec F S1x4096 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
              ∗ owns (c : Thread nD τ) arg5 fullShare (k0_pay1 i (box x0 (k0_off1 i) S3072x8.size (k0_off1_inb i)) (box x1 (k0_off2 i) S8x1024.size (k0_off2_inb i)) (box x2 (k0_off3 i) S3072x1.size (k0_off3_inb i)) (box x3 (k0_off4 i) S1x1024.size (k0_off4_inb i)))) -∗ K ⟨⟩))
          ⊢ wp frame (wpE (defs₀ (F := F)) Variants.none c none) E (cc0__ks_build_kernel i arg1 harg1 arg2 harg2 arg3 harg3 arg4 harg4 arg5 harg5) K := by
    intro E K
    simp only [cc0__ks_build_kernel_eq_skeleton]; unfold cc0__ks_build_kernel_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg1.eq_unread hf0; obtain rfl := harg2.eq_unread hf1; obtain rfl := harg3.eq_unread hf2; obtain rfl := harg4.eq_unread hf3
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; isplitr; swap; · iexact H4
    ipureintro
    rw [readAt_box harg1, readAt_box harg2, readAt_box harg3, readAt_box harg4]
    exact View.read_writes_full _ _ _ _ _

end Cert.KernelIdeal.Crf

end
-- ==== Proof.Kern.Region0.lean ====
module

public import proofs.«01_k».proof.Proof.Kern.Body0

/-! The first region: its proof data and what its body owes at each point. -/

@[expose] public section

set_option maxRecDepth 16384

noncomputable section

namespace Cert.KernelIdeal.Crf

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the core's buffers hold, one content per buffer. -/
abbrev Contents (F : FTy → Type) := (c : Dev nD) → (b : Ref sig .tc) → Buf (Elt F) ((c : Thread nD τ).loc b)

variable (V : Contents F)

/-- Window `w`'s block at point `t`, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The Gaussian block the body stores at point `t`. -/
def gauss (c : Dev nD) (t : Fin cfg0.N) : Vec F S3072x1024 .bf16 :=
  k0_pay1 (grid0.coords t) (box (blk0 V c 0 t) (k0_off1 (grid0.coords t)) S3072x8.size (k0_off1_inb _))
    (box (blk0 V c 1 t) (k0_off2 (grid0.coords t)) S8x1024.size (k0_off2_inb _))
    (box (blk0 V c 2 t) (k0_off3 (grid0.coords t)) S3072x1.size (k0_off3_inb _))
    (box (blk0 V c 3 t) (k0_off4 (grid0.coords t)) S1x1024.size (k0_off4_inb _))

/-- The first region's proof data: each input's buffer keeps its block, the output's buffer ends at the Gaussian block. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => gauss V c t
  Φ _ := Pipeline.scopedRest spec0 c
  q _ := fullShare
  owed _ := 0

theorem dat0_A (c : Dev nD) (w : Fin cfg0.W) : (dat0 V c).A w = V c (Pipeline.arrRef spec0 w) := by
  dsimp only [dat0]
theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) : (dat0 V c).after 3 t = blk0 V c 3 t := by dsimp only [dat0]
theorem after0_4 (c : Dev nD) (t : Fin cfg0.N) : (dat0 V c).after 4 t = gauss V c t := by dsimp only [dat0]

theorem before0_0 (c : Dev nD) (t : Fin cfg0.N) (d) : (dat0 V c).before 0 t d = blk0 V c 0 t :=
  ((dat0 V c).before_in_eq_fetched 0 rfl (fun _ => rfl) (fun _ _ _ => rfl) (fun t => by rw [after0_0]; unfold Dat.blockOf blk0; rw [dat0_A]; try rfl) t d).trans
    (by unfold Dat.fetched Dat.blockOf blk0; rw [dat0_A]; try rfl)
theorem before0_1 (c : Dev nD) (t : Fin cfg0.N) (d) : (dat0 V c).before 1 t d = blk0 V c 1 t :=
  ((dat0 V c).before_in_eq_fetched 1 rfl (fun _ => rfl) (fun _ _ _ => rfl) (fun t => by rw [after0_1]; unfold Dat.blockOf blk0; rw [dat0_A]; try rfl) t d).trans
    (by unfold Dat.fetched Dat.blockOf blk0; rw [dat0_A]; try rfl)
theorem before0_2 (c : Dev nD) (t : Fin cfg0.N) (d) : (dat0 V c).before 2 t d = blk0 V c 2 t :=
  ((dat0 V c).before_in_eq_fetched 2 rfl (fun _ => rfl) (fun _ _ _ => rfl) (fun t => by rw [after0_2]; unfold Dat.blockOf blk0; rw [dat0_A]; try rfl) t d).trans
    (by unfold Dat.fetched Dat.blockOf blk0; rw [dat0_A]; try rfl)
theorem before0_3 (c : Dev nD) (t : Fin cfg0.N) (d) : (dat0 V c).before 3 t d = blk0 V c 3 t :=
  ((dat0 V c).before_in_eq_fetched 3 rfl (fun _ => rfl) (fun _ _ _ => rfl) (fun t => by rw [after0_3]; unfold Dat.blockOf blk0; rw [dat0_A]; try rfl) t d).trans
    (by unfold Dat.fetched Dat.blockOf blk0; rw [dat0_A]; try rfl)

/-- What the body is called with at point `t`, the windows one by one, -/
def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def post0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point of the first region. -/
theorem sound0 (c : Dev nD) (t : Fin cfg0.N) :
    pre0 V c t ⊢ wp frame (wpE (defs₀ (F := F)) Variants.none c none) Set.univ (bodyAt0 t) (fun _ => post0 V c t) := by
  unfold pre0 post0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply ((run0 c (grid0.coords t) _ _ _ _ _ _ _ _ _ _ (blk0 V c 0 t) (blk0 V c 1 t) (blk0 V c 2 t) (blk0 V c 3 t)) Set.univ _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body table's row at point `t`'s slots is the first region's body. -/
theorem row0 (t : Fin cfg0.N) :
    defs₀ (F := F) .tc cfg0.body (cfg0.bodyArgs t (cfg0.slots t)) = bodyAt0 t := by
  unfold defs₀; rw [Defs.onTc_tc]

/-- The first region's body obligation. -/
theorem obligation0 (c : Dev nD) : BodyObligation (dat0 V c) (defs₀ (F := F)) Variants.none () Set.univ := fun t => by
  rw [bigSep_W0, bigSep_W0, row0]
  exact triple_restated (sound0 V c t) rfl .rfl fun _ => .rfl

end Cert.KernelIdeal.Crf

end
-- ==== Proof.Kern.Body1.lean ====
module

public import proofs.«01_k».proof.Proof.Kern.Body0

/-! What one grid point of the second region does to the buffers it works on, case by case: the sweep that builds the
bilateral kernel (its first point also starts the softmax), and the sweeps of the mean-field iteration. -/

@[expose] public section

set_option maxRecDepth 16384

noncomputable section

namespace Cert.KernelIdeal.Crf

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- An array with the box at offsets `off` replaced by `w`. -/
def put {s : Shape} {e : EltTy} (X : s.Idx → Elt F e) (off size : Fin s.rank → ℕ)
    (w : (⟨s.rank, size⟩ : Shape).Idx → Elt F e) : s.Idx → Elt F e :=
  fun y => if h : ∀ a, off a ≤ (y a).val ∧ (y a).val < off a + size a then w (Rect.unitLocal (s := s) y h) else X y

/-- A store of a box into a whole buffer that reads `X` leaves `X` with that box replaced. -/
theorem read_put {s : Shape} {e : EltTy} {m : Memref sig .tc .vmem s e} (h : m.IsWhole) (X : s.Idx → Elt F e)
    (off size : Fin s.rank → ℕ) (inb : ∀ a, off a + size a ≤ s.size a) (w : (Rect.unit (s := s) off size inb).shape.Idx → Elt F e) :
    m.view.read (Elt F) (m.view.writes (Elt F) (h.unread X) [⟨Rect.unit (s := s) off size inb, w⟩]) = put X off size w := by
  funext y
  rw [View.read_writes_cons_unit m.view _ inb w [] y rfl]
  unfold put
  split
  · rfl
  · exact congrFun (h.read_unread X) y

/-- The one index of a one-element array. -/
def only : S1.Idx := fun a => ⟨0, by fin_cases a; exact Nat.one_pos⟩

/-- A one-element array has no other index. -/
theorem eq_only (y : S1.Idx) : y = only := funext fun a => Fin.ext (by
  have h1 := (y a).isLt
  have h2 : S1.size a = 1 := by fin_cases a; rfl
  show (y a).val = 0
  omega)

/-- A load of the whole of a whole buffer that reads `X` gives `X`. -/
theorem readAt_all {s : Shape} {e : EltTy} {m : Memref sig .tc .vmem s e} (h : m.IsWhole) (X : s.Idx → Elt F e)
    (off : Fin s.rank → ℕ) (inb : ∀ a, off a + s.size a ≤ s.size a) :
    View.readAt (Elt F) m.view (Rect.unit (s := s) off s.size inb).toLoadRect (h.unread X) = X :=
  (View.readAt_full _ _ _).trans (h.read_unread X)

section Triples

variable (c : Dev nD) (i : grid1.Coords)
  (arg2 : Memref sig .tc .vmem S4096x8 .f32) (harg2 : arg2.IsWhole) (arg3 : Memref sig .tc .vmem S8x4096 .f32) (harg3 : arg3.IsWhole)
  (arg4 : Memref sig .tc .vmem S4096x1 .f32) (harg4 : arg4.IsWhole) (arg5 : Memref sig .tc .vmem S1x4096 .f32) (harg5 : arg5.IsWhole)
  (arg6 : Memref sig .tc .vmem S21x4096 .f32) (harg6 : arg6.IsWhole) (arg7 : Memref sig .tc .vmem S3072x1024 .bf16) (harg7 : arg7.IsWhole)
  (arg8 : Memref sig .tc .smem S1 .f32) (harg8 : arg8.IsWhole) (arg9 : Memref sig .tc .smem S1 .f32) (harg9 : arg9.IsWhole)
  (arg10 : Memref sig .tc .vmem S21x4096 .f32) (harg10 : arg10.IsWhole) (arg11 : Memref sig .tc .vmem S4096x4096 .bf16) (harg11 : arg11.IsWhole)
  (arg12 : Memref sig .tc .vmem S21x4096 .bf16) (harg12 : arg12.IsWhole) (arg13 : Memref sig .tc .vmem S21x4096 .bf16) (harg13 : arg13.IsWhole)
  (x2 : Vec F S4096x8 .f32) (x3 : Vec F S8x4096 .f32) (x4 : Vec F S4096x1 .f32) (x5 : Vec F S1x4096 .f32) (x6 : Vec F S21x4096 .f32)
  (x7 : Vec F S3072x1024 .bf16) (x8 x9 : Vec F S1 .f32) (x10 : Vec F S21x4096 .f32) (x11 : Vec F S4096x4096 .bf16)
  (x12 x13 : Vec F S21x4096 .bf16)

set_option maxHeartbeats 4000000 in
/-- The first point of the building sweep: it stores the first rows of the bilateral kernel and the start of the iteration. -/
theorem runBuildFirst (h1 : k1_cond1 i = 1#1) (hj : Scalar.cmpi .ne (Scalar.extui (Scalar.cmpi .eq (BitVec.ofNat 32 (i 1).val) 0#32)) 0#32 = 1#1) (h3 : ¬ k1_cond3 i = 1#1) (h5 : ¬ k1_cond5 i = 1#1) : ∀ (E : Set ℕ) (K : PUnit → sProp 𝕄),
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg11 fullShare x11 ∗ owns (c : Thread nD τ) arg12 fullShare x12
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg11 fullShare (put x11 (k1_off3 i) S1024x4096.size (k1_pay1 i (box x2 (k1_off1 i) S1024x8.size (k1_off1_inb i h1)) x3 (box x4 (k1_off2 i) S1024x1.size (k1_off2_inb i h1)) x5)) ∗ owns (c : Thread nD τ) arg12 fullShare (k1_pay2 x6)) -∗ K ⟨⟩))
      ⊢ wp frame (wpE (defs₀ (F := F)) Variants.none c none) E (cc1__fused_kernel i arg2 harg2 arg3 harg3 arg4 harg4 arg5 harg5 arg6 harg6 arg7 harg7 arg8 harg8 arg9 harg9 arg10 harg10 arg11 harg11 arg12 harg12 arg13 harg13) K := by
  intro E K
  simp only [cc1__fused_kernel_eq_skeleton]; unfold cc1__fused_kernel_skel
  simp only [h1, hj, h3, h5, ↓reduceDIte]
  unfold owns
  iintro ⟨⟨%f2, %hf2, H2⟩, ⟨%f3, %hf3, H3⟩, ⟨%f4, %hf4, H4⟩, ⟨%f5, %hf5, H5⟩, ⟨%f6, %hf6, H6⟩, ⟨%f11, %hf11, H11⟩, ⟨%f12, %hf12, H12⟩, Hk⟩
  obtain rfl := harg2.eq_unread hf2
  obtain rfl := harg3.eq_unread hf3
  obtain rfl := harg4.eq_unread hf4
  obtain rfl := harg5.eq_unread hf5
  obtain rfl := harg6.eq_unread hf6
  obtain rfl := harg11.eq_unread hf11
  obtain rfl := harg12.eq_unread hf12
  sl_exec
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H11]
  · iexists _; isplitr; swap; · iexact H11
    ipureintro
    unfold runBuildFirst.sl.v35 runBuildFirst.sl.v42
    rw [read_put harg11, readAt_all harg3, readAt_all harg5, readAt_box harg2, readAt_box harg4]
  · iexists _; isplitr; swap; · iexact H12
    ipureintro
    rw [readAt_all harg6]
    exact View.read_writes_full _ _ _ _ _

set_option maxHeartbeats 4000000 in
/-- A later point of the building sweep: it stores its rows of the bilateral kernel. -/
theorem runBuild (h1 : k1_cond1 i = 1#1) (hj : ¬ Scalar.cmpi .ne (Scalar.extui (Scalar.cmpi .eq (BitVec.ofNat 32 (i 1).val) 0#32)) 0#32 = 1#1) (h3 : ¬ k1_cond3 i = 1#1) (h5 : ¬ k1_cond5 i = 1#1) : ∀ (E : Set ℕ) (K : PUnit → sProp 𝕄),
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg11 fullShare x11
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg11 fullShare (put x11 (k1_off3 i) S1024x4096.size (k1_pay1 i (box x2 (k1_off1 i) S1024x8.size (k1_off1_inb i h1)) x3 (box x4 (k1_off2 i) S1024x1.size (k1_off2_inb i h1)) x5))) -∗ K ⟨⟩))
      ⊢ wp frame (wpE (defs₀ (F := F)) Variants.none c none) E (cc1__fused_kernel i arg2 harg2 arg3 harg3 arg4 harg4 arg5 harg5 arg6 harg6 arg7 harg7 arg8 harg8 arg9 harg9 arg10 harg10 arg11 harg11 arg12 harg12 arg13 harg13) K := by
  intro E K
  simp only [cc1__fused_kernel_eq_skeleton]; unfold cc1__fused_kernel_skel
  simp only [h1, hj, h3, h5, ↓reduceDIte]
  unfold owns
  iintro ⟨⟨%f2, %hf2, H2⟩, ⟨%f3, %hf3, H3⟩, ⟨%f4, %hf4, H4⟩, ⟨%f5, %hf5, H5⟩, ⟨%f11, %hf11, H11⟩, Hk⟩
  obtain rfl := harg2.eq_unread hf2
  obtain rfl := harg3.eq_unread hf3
  obtain rfl := harg4.eq_unread hf4
  obtain rfl := harg5.eq_unread hf5
  obtain rfl := harg11.eq_unread hf11
  sl_exec
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  · iexists _; isplitr; swap; · iexact H11
    ipureintro
    unfold runBuild.sl.v35 runBuild.sl.v42
    rw [read_put harg11, readAt_all harg3, readAt_all harg5, readAt_box harg2, readAt_box harg4]

set_option maxHeartbeats 4000000 in
/-- A point of an odd sweep but the last: the next iterate's columns go to the second buffer. -/
theorem runOdd (h1 : ¬ k1_cond1 i = 1#1) (h3 : k1_cond3 i = 1#1) (h4 : ¬ k1_cond4 i = 1#1) (h5 : ¬ k1_cond5 i = 1#1) : ∀ (E : Set ℕ) (K : PUnit → sProp 𝕄),
    iprop(owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg11 fullShare x11 ∗ owns (c : Thread nD τ) arg12 fullShare x12 ∗ owns (c : Thread nD τ) arg13 fullShare x13
        ∗ (iprop(owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg11 fullShare x11 ∗ owns (c : Thread nD τ) arg12 fullShare x12 ∗ owns (c : Thread nD τ) arg13 fullShare (put x13 (k1_off6 i) S21x1024.size (k1_pay4 (k1_pay7 x12 (box x12 (k1_off4 i) S21x3072.size (k1_off4_inb i h3)) (box x11 (k1_off5 i) S4096x1024.size (k1_off5_inb i h3)) x7 (x8 only) (x9 only) (box x6 (k1_off6 i) S21x1024.size (k1_off6_inb i h3)))))) -∗ K ⟨⟩))
      ⊢ wp frame (wpE (defs₀ (F := F)) Variants.none c none) E (cc1__fused_kernel i arg2 harg2 arg3 harg3 arg4 harg4 arg5 harg5 arg6 harg6 arg7 harg7 arg8 harg8 arg9 harg9 arg10 harg10 arg11 harg11 arg12 harg12 arg13 harg13) K := by
  intro E K
  simp only [cc1__fused_kernel_eq_skeleton]; unfold cc1__fused_kernel_skel
  simp only [h1, h3, h4, h5, ↓reduceDIte]
  simp only [k1_part1_eq_skeleton]; unfold k1_part1_skel
  unfold owns
  iintro ⟨⟨%f6, %hf6, H6⟩, ⟨%f7, %hf7, H7⟩, ⟨%f8, %hf8, H8⟩, ⟨%f9, %hf9, H9⟩, ⟨%f11, %hf11, H11⟩, ⟨%f12, %hf12, H12⟩, ⟨%f13, %hf13, H13⟩, Hk⟩
  obtain rfl := harg6.eq_unread hf6
  obtain rfl := harg7.eq_unread hf7
  obtain rfl := harg8.eq_unread hf8
  obtain rfl := harg9.eq_unread hf9
  obtain rfl := harg11.eq_unread hf11
  obtain rfl := harg12.eq_unread hf12
  obtain rfl := harg13.eq_unread hf13
  sl_exec
  sl_step
  iapply Hk
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H11]
  · iexists _; isplitr; · ipureintro; exact harg11.read_unread _
    iexact H11
  isplitl [H12]
  · iexists _; isplitr; · ipureintro; exact harg12.read_unread _
    iexact H12
  · iexists _; isplitr; swap; · iexact H13
    ipureintro
    unfold runOdd.sl.v41 runOdd.sl.v44 runOdd.sl.v62
    rw [read_put harg13, readAt_all harg12, readAt_all harg7, readAt_box harg12, readAt_box harg11, readAt_box harg6]
    rw [show runOdd.sl.r c arg8 harg8 x8 = x8 only from (harg8.readAt_unread x8 _ _).trans (congrArg x8 (eq_only _)),
      show runOdd.sl.r_1 c arg9 harg9 x9 = x9 only from (harg9.readAt_unread x9 _ _).trans (congrArg x9 (eq_only _))]

set_option maxHeartbeats 4000000 in
/-- A point of the last sweep: the last iterate's columns go to the result, too. -/
theorem runLast (h1 : ¬ k1_cond1 i = 1#1) (h3 : k1_cond3 i = 1#1) (h4 : k1_cond4 i = 1#1) (h5 : ¬ k1_cond5 i = 1#1) : ∀ (E : Set ℕ) (K : PUnit → sProp 𝕄),
    iprop(owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13
        ∗ (iprop(owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare (put x10 (k1_off7 i) S21x1024.size (k1_pay3 (k1_pay7 x12 (box x12 (k1_off4 i) S21x3072.size (k1_off4_inb i h3)) (box x11 (k1_off5 i) S4096x1024.size (k1_off5_inb i h3)) x7 (x8 only) (x9 only) (box x6 (k1_off6 i) S21x1024.size (k1_off6_inb i h3))))) ∗ owns (c : Thread nD τ) arg11 fullShare x11 ∗ owns (c : Thread nD τ) arg12 fullShare x12 ∗ owns (c : Thread nD τ) arg13 fullShare (put x13 (k1_off6 i) S21x1024.size (k1_pay4 (k1_pay7 x12 (box x12 (k1_off4 i) S21x3072.size (k1_off4_inb i h3)) (box x11 (k1_off5 i) S4096x1024.size (k1_off5_inb i h3)) x7 (x8 only) (x9 only) (box x6 (k1_off6 i) S21x1024.size (k1_off6_inb i h3)))))) -∗ K ⟨⟩))
      ⊢ wp frame (wpE (defs₀ (F := F)) Variants.none c none) E (cc1__fused_kernel i arg2 harg2 arg3 harg3 arg4 harg4 arg5 harg5 arg6 harg6 arg7 harg7 arg8 harg8 arg9 harg9 arg10 harg10 arg11 harg11 arg12 harg12 arg13 harg13) K := by
  intro E K
  simp only [cc1__fused_kernel_eq_skeleton]; unfold cc1__fused_kernel_skel
  simp only [h1, h3, h4, h5, ↓reduceDIte]
  simp only [k1_part1_eq_skeleton]; unfold k1_part1_skel
  unfold owns
  iintro ⟨⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  obtain rfl := harg12.eq_unread hf12
  obtain rfl := harg13.eq_unread hf13
  sl_exec
  sl_step
  iapply Hk
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; swap; · iexact H10
    ipureintro
    unfold runLast.sl.v41 runLast.sl.v44 runLast.sl.v62
    rw [read_put harg10, readAt_all harg12, readAt_all harg7, readAt_box harg12, readAt_box harg11, readAt_box harg6]
    rw [show runLast.sl.r c arg8 harg8 x8 = x8 only from (harg8.readAt_unread x8 _ _).trans (congrArg x8 (eq_only _)),
      show runLast.sl.r_1 c arg9 harg9 x9 = x9 only from (harg9.readAt_unread x9 _ _).trans (congrArg x9 (eq_only _))]
  isplitl [H11]
  · iexists _; isplitr; · ipureintro; exact harg11.read_unread _
    iexact H11
  isplitl [H12]
  · iexists _; isplitr; · ipureintro; exact harg12.read_unread _
    iexact H12
  · iexists _; isplitr; swap; · iexact H13
    ipureintro
    unfold runLast.sl.v41 runLast.sl.v44 runLast.sl.v62
    rw [read_put harg13, readAt_all harg12, readAt_all harg7, readAt_box harg12, readAt_box harg11, readAt_box harg6]
    rw [show runLast.sl.r c arg8 harg8 x8 = x8 only from (harg8.readAt_unread x8 _ _).trans (congrArg x8 (eq_only _)),
      show runLast.sl.r_1 c arg9 harg9 x9 = x9 only from (harg9.readAt_unread x9 _ _).trans (congrArg x9 (eq_only _))]

set_option maxHeartbeats 4000000 in
/-- A point of an even sweep: the next iterate's columns go to the first buffer. -/
theorem runEven (h1 : ¬ k1_cond1 i = 1#1) (h3 : ¬ k1_cond3 i = 1#1) (h5 : k1_cond5 i = 1#1) (h6 : ¬ k1_cond6 i = 1#1) : ∀ (E : Set ℕ) (K : PUnit → sProp 𝕄),
    iprop(owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg11 fullShare x11 ∗ owns (c : Thread nD τ) arg12 fullShare x12 ∗ owns (c : Thread nD τ) arg13 fullShare x13
        ∗ (iprop(owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg11 fullShare x11 ∗ owns (c : Thread nD τ) arg12 fullShare (put x12 (k1_off10 i) S21x1024.size (k1_pay6 (k1_pay8 x13 (box x13 (k1_off8 i) S21x3072.size (k1_off8_inb i h5)) (box x11 (k1_off9 i) S4096x1024.size (k1_off9_inb i h5)) x7 (x8 only) (x9 only) (box x6 (k1_off10 i) S21x1024.size (k1_off10_inb i h5))))) ∗ owns (c : Thread nD τ) arg13 fullShare x13) -∗ K ⟨⟩))
      ⊢ wp frame (wpE (defs₀ (F := F)) Variants.none c none) E (cc1__fused_kernel i arg2 harg2 arg3 harg3 arg4 harg4 arg5 harg5 arg6 harg6 arg7 harg7 arg8 harg8 arg9 harg9 arg10 harg10 arg11 harg11 arg12 harg12 arg13 harg13) K := by
  intro E K
  simp only [cc1__fused_kernel_eq_skeleton]; unfold cc1__fused_kernel_skel
  simp only [h1, h3, h5, h6, ↓reduceDIte]
  simp only [k1_part2_eq_skeleton]; unfold k1_part2_skel
  unfold owns
  iintro ⟨⟨%f6, %hf6, H6⟩, ⟨%f7, %hf7, H7⟩, ⟨%f8, %hf8, H8⟩, ⟨%f9, %hf9, H9⟩, ⟨%f11, %hf11, H11⟩, ⟨%f12, %hf12, H12⟩, ⟨%f13, %hf13, H13⟩, Hk⟩
  obtain rfl := harg6.eq_unread hf6
  obtain rfl := harg7.eq_unread hf7
  obtain rfl := harg8.eq_unread hf8
  obtain rfl := harg9.eq_unread hf9
  obtain rfl := harg11.eq_unread hf11
  obtain rfl := harg12.eq_unread hf12
  obtain rfl := harg13.eq_unread hf13
  sl_exec
  sl_step
  iapply Hk
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H11]
  · iexists _; isplitr; · ipureintro; exact harg11.read_unread _
    iexact H11
  isplitl [H12]
  · iexists _; isplitr; swap; · iexact H12
    ipureintro
    unfold runEven.sl.v41 runEven.sl.v44 runEven.sl.v62
    rw [read_put harg12, readAt_all harg13, readAt_all harg7, readAt_box harg13, readAt_box harg11, readAt_box harg6]
    rw [show runEven.sl.r c arg8 harg8 x8 = x8 only from (harg8.readAt_unread x8 _ _).trans (congrArg x8 (eq_only _)),
      show runEven.sl.r_1 c arg9 harg9 x9 = x9 only from (harg9.readAt_unread x9 _ _).trans (congrArg x9 (eq_only _))]
  · iexists _; isplitr; · ipureintro; exact harg13.read_unread _
    iexact H13

end Triples

end Cert.KernelIdeal.Crf

end
-- ==== Proof.Kern.Iterate.lean ====
module

public import proofs.«01_k».proof.Proof.Kern.Body1
public import Idealize.ShloMosaic.Lib.ValueIdxCoords

/-! What the second region computes, as arrays: the bilateral kernel, the iterates, the result; and what its scratch
holds before each point. -/

@[expose] public section

set_option maxRecDepth 16384

noncomputable section

namespace Cert.KernelIdeal.Crf

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-! ## Blocks of columns and of rows -/

/-- The first row of the window of column block `j`. -/
def winStart (j : Fin 4) : ℕ := if j.val < 2 then 0 else 1024

/-- Column block `j` of a label-by-pixel array. -/
def cols {e : EltTy} (X : S21x4096.Idx → Elt F e) (j : Fin 4) : S21x1024.Idx → Elt F e :=
  box X ![0, 1024 * j.val] S21x1024.size (Fin.forall_fin_two.mpr ⟨by simp, by have := j.isLt; simp; omega⟩)

/-- The columns of a label-by-pixel array that lie in block `j`'s window. -/
def wcols {e : EltTy} (X : S21x4096.Idx → Elt F e) (j : Fin 4) : S21x3072.Idx → Elt F e :=
  box X ![0, winStart j] S21x3072.size (Fin.forall_fin_two.mpr ⟨by simp, by unfold winStart; simp; split <;> omega⟩)

/-- Column block `j` of a pixel-by-pixel array. -/
def kcols {e : EltTy} (X : S4096x4096.Idx → Elt F e) (j : Fin 4) : S4096x1024.Idx → Elt F e :=
  box X ![0, 1024 * j.val] S4096x1024.size (Fin.forall_fin_two.mpr ⟨by simp, by have := j.isLt; simp; omega⟩)

/-- A label-by-pixel array from its four column blocks. -/
def glueCols {e : EltTy} (f : Fin 4 → S21x1024.Idx → Elt F e) : S21x4096.Idx → Elt F e :=
  fun y => f ⟨(y 1).val / 1024, by have := idx2_lt1 y; omega⟩ (ix2 (y 0) ⟨(y 1).val % 1024, Nat.mod_lt _ (by decide)⟩)

/-- A pixel-by-pixel array from its four row blocks. -/
def glueRows {e : EltTy} (f : Fin 4 → S1024x4096.Idx → Elt F e) : S4096x4096.Idx → Elt F e :=
  fun y => f ⟨(y 0).val / 1024, by have := idx2_lt0 y; omega⟩ (ix2 ⟨(y 0).val % 1024, Nat.mod_lt _ (by decide)⟩ (y 1))

/-- The box at equal offsets is the same box. -/
theorem box_congr {s : Shape} {e : EltTy} (X : s.Idx → Elt F e) {off off' size : Fin s.rank → ℕ} (h : off = off')
    (inb : ∀ a, off a + size a ≤ s.size a) (inb' : ∀ a, off' a + size a ≤ s.size a) : box X off size inb = box X off' size inb' := by
  subst h; rfl

/-- Storing block `j` into an array that already has the blocks before it gives one that has the blocks up to it. -/
theorem put_cols {e : EltTy} (f : Fin 4 → S21x1024.Idx → Elt F e) (X : S21x4096.Idx → Elt F e) (j : Fin 4)
    (hX : ∀ y, (y 1).val < 1024 * j.val → X y = glueCols f y) {off : Fin 2 → ℕ} (hoff : off = ![0, 1024 * j.val]) :
    ∀ y : S21x4096.Idx, (y 1).val < 1024 * (j.val + 1) → put X off S21x1024.size (f j) y = glueCols f y := by
  subst hoff
  intro y hy
  unfold put
  split
  · rename_i h
    have h1 : 1024 * j.val ≤ (y 1).val ∧ (y 1).val < 1024 * j.val + 1024 := h 1
    unfold glueCols
    have hj : j = ⟨(y 1).val / 1024, by have := idx2_lt1 y; omega⟩ := Fin.ext (by show j.val = (y 1).val / 1024; omega)
    rw [← hj]
    refine congrArg (f j) (funext fun a => Fin.ext ?_)
    fin_cases a
    · show (y 0).val - 0 = (y 0).val; rfl
    · show (y 1).val - 1024 * j.val = (y 1).val % 1024; omega
  · rename_i h
    refine hX y ?_
    by_contra hc
    refine h fun a => ?_
    fin_cases a
    · exact ⟨Nat.zero_le _, by have := idx2_lt0 y; show (y 0).val < 0 + 21; omega⟩
    · exact ⟨by show 1024 * j.val ≤ (y 1).val; omega, by show (y 1).val < 1024 * j.val + 1024; omega⟩

/-- Storing row block `j` into an array that already has the blocks before it gives one that has the blocks up to it. -/
theorem put_rows {e : EltTy} (f : Fin 4 → S1024x4096.Idx → Elt F e) (X : S4096x4096.Idx → Elt F e) (j : Fin 4)
    (hX : ∀ y, (y 0).val < 1024 * j.val → X y = glueRows f y) {off : Fin 2 → ℕ} (hoff : off = ![1024 * j.val, 0]) :
    ∀ y : S4096x4096.Idx, (y 0).val < 1024 * (j.val + 1) → put X off S1024x4096.size (f j) y = glueRows f y := by
  subst hoff
  intro y hy
  unfold put
  split
  · rename_i h
    have h1 : 1024 * j.val ≤ (y 0).val ∧ (y 0).val < 1024 * j.val + 1024 := h 0
    unfold glueRows
    have hj : j = ⟨(y 0).val / 1024, by have := idx2_lt0 y; omega⟩ := Fin.ext (by show j.val = (y 0).val / 1024; omega)
    rw [← hj]
    refine congrArg (f j) (funext fun a => Fin.ext ?_)
    fin_cases a
    · show (y 0).val - 1024 * j.val = (y 0).val % 1024; omega
    · show (y 1).val - 0 = (y 1).val; rfl
  · rename_i h
    refine hX y ?_
    by_contra hc
    refine h fun a => ?_
    fin_cases a
    · exact ⟨by show 1024 * j.val ≤ (y 0).val; omega, by show (y 0).val < 1024 * j.val + 1024; omega⟩
    · exact ⟨Nat.zero_le _, by have := idx2_lt1 y; show (y 1).val < 0 + 4096; omega⟩

/-! ## What the region computes -/

/-- The second region's operands: the scaled features, their transpose, the two halved squared norms, the unary
energies, the four windowed blocks of the spatial kernel, and the two weights. -/
structure Operands (F : FTy → Type) where
  fb : Vec F S4096x8 .f32
  ft : Vec F S8x4096 .f32
  sc : Vec F S4096x1 .f32
  sr : Vec F S1x4096 .f32
  ut : Vec F S21x4096 .f32
  ks : Fin 4 → Vec F S3072x1024 .bf16
  wb : Elt F .f32
  ws : Elt F .f32

namespace Operands

variable (o : Operands F)

/-- Row block `j` of the bilateral kernel. -/
def bilRows (j : Fin 4) : FVec F S1024x4096 .bf16 :=
  k1_pay1 (grid1.coords ⟨j.val, by have := j.isLt; rw [N_1]; omega⟩)
    (box o.fb ![1024 * j.val, 0] S1024x8.size (Fin.forall_fin_two.mpr ⟨by have := j.isLt; simp; omega, by simp⟩)) o.ft
    (box o.sc ![1024 * j.val, 0] S1024x1.size (Fin.forall_fin_two.mpr ⟨by have := j.isLt; simp; omega, by simp⟩)) o.sr

/-- The bilateral kernel. -/
def bil : Vec F S4096x4096 .bf16 := glueRows o.bilRows

/-- The exponentials of column block `j`'s energies at the iterate `q`. -/
def energy (q : Vec F S21x4096 .bf16) (j : Fin 4) : FVec F S21x1024 .f32 :=
  k1_pay7 q (wcols q j) (kcols o.bil j) (o.ks j) o.wb o.ws (cols o.ut j)

/-- The iterates: the softmax of the unary energies, and from each the next, block by block. -/
def iter : ℕ → Vec F S21x4096 .bf16
  | 0 => k1_pay2 o.ut
  | n + 1 => glueCols fun j => k1_pay4 (o.energy (iter n) j)

/-- The result: the fifth iterate before it is narrowed. -/
def result : Vec F S21x4096 .f32 := glueCols fun j => k1_pay3 (o.energy (o.iter 4) j)

/-- What the scratch holds before point `n`: while the kernel is built, its rows so far and (after the first point) the
start; afterwards the whole kernel, the last finished iterate in one buffer and the next one's columns so far in the other. -/
def Holds (n : ℕ) (kb : Vec F S4096x4096 .bf16) (qa qb : Vec F S21x4096 .bf16) : Prop :=
  (∀ y : S4096x4096.Idx, (y 0).val < 1024 * n → kb y = o.bil y)
  ∧ (0 < n → n ≤ 4 → qa = o.iter 0)
  ∧ (4 ≤ n → n / 4 % 2 = 1 → qa = o.iter (n / 4 - 1) ∧ ∀ y : S21x4096.Idx, (y 1).val < 1024 * (n % 4) → qb y = o.iter (n / 4) y)
  ∧ (8 ≤ n → n / 4 % 2 = 0 → qb = o.iter (n / 4 - 1) ∧ ∀ y : S21x4096.Idx, (y 1).val < 1024 * (n % 4) → qa y = o.iter (n / 4) y)

variable {o}

/-- After the building sweep the scratch holds the whole kernel. -/
theorem Holds.kb_eq {n : ℕ} {kb : Vec F S4096x4096 .bf16} {qa qb : Vec F S21x4096 .bf16} (h : o.Holds n kb qa qb) (hn : 4 ≤ n) : kb = o.bil :=
  funext fun y => h.1 y (by have := idx2_lt0 y; omega)

/-- A building point: one more row block, the start stored at the first. -/
theorem Holds.build {n : ℕ} {kb : Vec F S4096x4096 .bf16} {qa qa' qb : Vec F S21x4096 .bf16} (h : o.Holds n kb qa qb) (hn : n < 4)
    {off : Fin 2 → ℕ} (hoff : off = ![1024 * n, 0]) (w : FVec F S1024x4096 .bf16) (hw : w = o.bilRows ⟨n, hn⟩)
    (hq : qa' = o.iter 0) : o.Holds (n + 1) (put kb off S1024x4096.size w) qa' qb := by
  subst hw
  refine ⟨put_rows (e := .bf16) o.bilRows kb ⟨n, hn⟩ (fun y hy => h.1 y hy) hoff, fun _ _ => hq, fun h4 _ => ?_, fun h8 _ => by omega⟩
  have : n = 3 := by omega
  subst this
  exact ⟨hq, fun y hy => by simp at hy⟩

/-- A point of an odd sweep: one more column block of the next iterate in the second buffer. -/
theorem Holds.odd {n : ℕ} {kb : Vec F S4096x4096 .bf16} {qa qb : Vec F S21x4096 .bf16} (h : o.Holds n kb qa qb) (hn : n / 4 % 2 = 1)
    {off : Fin 2 → ℕ} (hoff : off = ![0, 1024 * (n % 4)]) (w : FVec F S21x1024 .bf16)
    (hw : w = k1_pay4 (o.energy (o.iter (n / 4 - 1)) ⟨n % 4, Nat.mod_lt _ (by decide)⟩)) :
    o.Holds (n + 1) kb qa (put qb off S21x1024.size w) := by
  subst hw
  have h4 : 4 ≤ n := by omega
  obtain ⟨hqa, hqb⟩ := h.2.2.1 h4 hn
  have hi : o.iter (n / 4) = glueCols fun j => k1_pay4 (o.energy (o.iter (n / 4 - 1)) j) := by
    conv_lhs => rw [show n / 4 = (n / 4 - 1) + 1 by omega]
    rfl
  have hp := put_cols (fun j => k1_pay4 (o.energy (o.iter (n / 4 - 1)) j)) qb ⟨n % 4, Nat.mod_lt _ (by decide)⟩
    (by rw [← hi]; exact hqb) hoff
  rw [← hi] at hp
  refine ⟨fun y _ => congrFun (h.kb_eq h4) y, fun _ _ => by omega, fun _ hn' => ?_, fun _ hn' => ?_⟩
  · have e : (n + 1) / 4 = n / 4 := by omega
    rw [e]
    exact ⟨hqa, fun y hy => hp y (by show (y 1).val < 1024 * (n % 4 + 1); omega)⟩
  · have e : (n + 1) / 4 - 1 = n / 4 := by omega
    rw [e]
    exact ⟨funext fun y => hp y (by have := idx2_lt1 y; show (y 1).val < 1024 * (n % 4 + 1); omega), fun y hy => by omega⟩

/-- A point of an even sweep: one more column block of the next iterate in the first buffer. -/
theorem Holds.even {n : ℕ} {kb : Vec F S4096x4096 .bf16} {qa qb : Vec F S21x4096 .bf16} (h : o.Holds n kb qa qb) (h8 : 8 ≤ n) (hn : n / 4 % 2 = 0)
    {off : Fin 2 → ℕ} (hoff : off = ![0, 1024 * (n % 4)]) (w : FVec F S21x1024 .bf16)
    (hw : w = k1_pay4 (o.energy (o.iter (n / 4 - 1)) ⟨n % 4, Nat.mod_lt _ (by decide)⟩)) :
    o.Holds (n + 1) kb (put qa off S21x1024.size w) qb := by
  subst hw
  have h4 : 4 ≤ n := by omega
  obtain ⟨hqb, hqa⟩ := h.2.2.2 h8 hn
  have hi : o.iter (n / 4) = glueCols fun j => k1_pay4 (o.energy (o.iter (n / 4 - 1)) j) := by
    conv_lhs => rw [show n / 4 = (n / 4 - 1) + 1 by omega]
    rfl
  have hp := put_cols (fun j => k1_pay4 (o.energy (o.iter (n / 4 - 1)) j)) qa ⟨n % 4, Nat.mod_lt _ (by decide)⟩
    (by rw [← hi]; exact hqa) hoff
  rw [← hi] at hp
  refine ⟨fun y _ => congrFun (h.kb_eq h4) y, fun _ _ => by omega, fun _ hn' => ?_, fun _ hn' => ?_⟩
  · have e : (n + 1) / 4 - 1 = n / 4 := by omega
    rw [e]
    exact ⟨funext fun y => hp y (by have := idx2_lt1 y; show (y 1).val < 1024 * (n % 4 + 1); omega), fun y hy => by omega⟩
  · have e : (n + 1) / 4 = n / 4 := by omega
    rw [e]
    exact ⟨hqb, fun y hy => hp y (by show (y 1).val < 1024 * (n % 4 + 1); omega)⟩

end Operands

/-! ## The points in closed form -/

theorem cond1_iff : ∀ t : Fin grid1.N, k1_cond1 (grid1.coords t) = 1#1 ↔ t.val < 4 := by decide +kernel
theorem cond2_iff : ∀ t : Fin grid1.N, Scalar.cmpi .ne (Scalar.extui (Scalar.cmpi .eq (BitVec.ofNat 32 (grid1.coords t 1).val) 0#32) : BitVec 32) 0#32 = 1#1 ↔ t.val % 4 = 0 := by decide +kernel
theorem cond3_iff : ∀ t : Fin grid1.N, k1_cond3 (grid1.coords t) = 1#1 ↔ t.val / 4 % 2 = 1 := by decide +kernel
theorem cond4_iff : ∀ t : Fin grid1.N, k1_cond4 (grid1.coords t) = 1#1 ↔ 20 ≤ t.val := by decide +kernel
theorem cond5_iff : ∀ t : Fin grid1.N, k1_cond5 (grid1.coords t) = 1#1 ↔ 8 ≤ t.val ∧ t.val / 4 % 2 = 0 := by decide +kernel
theorem cond6_iff : ∀ t : Fin grid1.N, k1_cond6 (grid1.coords t) = 1#1 ↔ 20 ≤ t.val := by decide +kernel
theorem off1_eq : ∀ t : Fin grid1.N, k1_off1 (grid1.coords t) = ![1024 * (t.val % 4), 0] := by decide +kernel
theorem off2_eq : ∀ t : Fin grid1.N, k1_off2 (grid1.coords t) = ![1024 * (t.val % 4), 0] := by decide +kernel
theorem off3_eq : ∀ t : Fin grid1.N, k1_off3 (grid1.coords t) = ![1024 * (t.val % 4), 0] := by decide +kernel
theorem off4_eq : ∀ t : Fin grid1.N, k1_off4 (grid1.coords t) = ![0, winStart ⟨t.val % 4, Nat.mod_lt _ (by decide)⟩] := by decide +kernel
theorem off5_eq : ∀ t : Fin grid1.N, k1_off5 (grid1.coords t) = ![0, 1024 * (t.val % 4)] := by decide +kernel
theorem off6_eq : ∀ t : Fin grid1.N, k1_off6 (grid1.coords t) = ![0, 1024 * (t.val % 4)] := by decide +kernel
theorem off7_eq : ∀ t : Fin grid1.N, k1_off7 (grid1.coords t) = ![0, 1024 * (t.val % 4)] := by decide +kernel
theorem off8_eq : ∀ t : Fin grid1.N, k1_off8 (grid1.coords t) = ![0, winStart ⟨t.val % 4, Nat.mod_lt _ (by decide)⟩] := by decide +kernel
theorem off9_eq : ∀ t : Fin grid1.N, k1_off9 (grid1.coords t) = ![0, 1024 * (t.val % 4)] := by decide +kernel
theorem off10_eq : ∀ t : Fin grid1.N, k1_off10 (grid1.coords t) = ![0, 1024 * (t.val % 4)] := by decide +kernel

end Cert.KernelIdeal.Crf

end
-- ==== Proof.Kern.Region1.lean ====
module

public import proofs.«01_k».proof.Proof.Kern.Region0
public import proofs.«01_k».proof.Proof.Kern.Iterate
public import Idealize.ShloMosaic.Lib.Pipeline.DatRel

/-! The second region: its proof data and what its body owes at each point. -/

@[expose] public section

set_option maxRecDepth 16384

noncomputable section

namespace Cert.KernelIdeal.Crf

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx
open Idealize.ShloMosaic.Pipeline (BodyObligationRel)

variable (V : Contents F)

/-- Window `w`'s block at point `t`, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Point `n` of the region. -/
def pt (n : ℕ) (h : n < 24) : Fin cfg1.N := ⟨n, lt_of_lt_of_eq h N_1.symm⟩

/-- The region's operands, read off the arrays it finds. -/
def operands (c : Dev nD) : Operands F where
  fb := blk1 V c 0 (pt 0 (by decide))
  ft := blk1 V c 1 (pt 0 (by decide))
  sc := blk1 V c 2 (pt 0 (by decide))
  sr := blk1 V c 3 (pt 0 (by decide))
  ut := blk1 V c 4 (pt 0 (by decide))
  ks j := blk1 V c 5 (pt (4 + j.val) (by have := j.isLt; omega))
  wb := blk1 V c 6 (pt 0 (by decide)) only
  ws := blk1 V c 7 (pt 0 (by decide)) only

/-- What the core holds of its scoped buffers before point `n`: the other region's staging buffers at anything, the scratch at what
`Operands.Holds` says. -/
def scratch (c : Dev nD) (n : ℕ) : sProp 𝕄 :=
  iprop(((∃ f : Buf (Elt F) ((c : Thread nD τ).loc cc0_stg0_0), ((c : Thread nD τ).loc cc0_stg0_0) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg4_0), ((c : Thread nD τ).loc cc0_stg4_0) ↦{fullShare} f)
      ∗ (∃ f : Buf (Elt F) ((c : Thread nD τ).loc cc0_stg4_1), ((c : Thread nD τ).loc cc0_stg4_1) ↦{fullShare} f))
    ∗ ∃ (kb : Vec F S4096x4096 .bf16) (qa : Vec F S21x4096 .bf16) (qb : Vec F S21x4096 .bf16), ⌜(operands V c).Holds n kb qa qb⌝
      ∗ owns (c : Thread nD τ) (Memref.whole cc1_scratch0) fullShare kb
      ∗ owns (c : Thread nD τ) (Memref.whole cc1_scratch1) fullShare qa
      ∗ owns (c : Thread nD τ) (Memref.whole cc1_scratch2) fullShare qb)

/-- The region's proof data: each input's buffer keeps its block, the output's ends at the result; the scratch holds what
`Operands.Holds` says. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => blk1 V c 6 t
    | ⟨7, _⟩ => blk1 V c 7 t
    | ⟨8, _⟩ => (operands V c).result
  Φ n := scratch V c n.val
  q _ := fullShare
  owed _ := 0

/-- The output's window is the one known only in part between its points. -/
def part1 (w : Fin cfg1.W) : Bool := decide (w = 8)

/-- What is known of the output's buffer after point `t`: in the last sweep, the columns so far are the result's. -/
def Rl1 (c : Dev nD) : (w : Fin cfg1.W) → Fin cfg1.N → ((cfg1.win w).block.Idx → Elt F (cfg1.win w).elt) → Prop
  | ⟨8, _⟩, t, X => ∀ y : S21x4096.Idx, (y 1).val < 1024 * (t.val - 19) → X y = (operands V c).result y
  | _, _, _ => True

theorem dat1_A (c : Dev nD) (w : Fin cfg1.W) : (dat1 V c).A w = V c (Pipeline.arrRef spec1 w) := by
  dsimp only [dat1]
theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = blk1 V c 3 t := by dsimp only [dat1]
theorem after1_4 (c : Dev nD) (t : Fin cfg1.N) : (dat1 V c).after 4 t = blk1 V c 4 t := by dsimp only [dat1]
theorem after1_5 (c : Dev nD) (t : Fin cfg1.N) : (dat1 V c).after 5 t = blk1 V c 5 t := by dsimp only [dat1]
theorem after1_6 (c : Dev nD) (t : Fin cfg1.N) : (dat1 V c).after 6 t = blk1 V c 6 t := by dsimp only [dat1]
theorem after1_7 (c : Dev nD) (t : Fin cfg1.N) : (dat1 V c).after 7 t = blk1 V c 7 t := by dsimp only [dat1]
theorem after1_8 (c : Dev nD) (t : Fin cfg1.N) : (dat1 V c).after 8 t = (operands V c).result := by dsimp only [dat1]

theorem before1_0 (c : Dev nD) (t : Fin cfg1.N) (d) : (dat1 V c).before 0 t d = blk1 V c 0 t :=
  ((dat1 V c).before_in_eq_fetched 0 rfl (fun _ => rfl) (fun _ _ _ => rfl) (fun t => by rw [after1_0]; unfold Dat.blockOf blk1; rw [dat1_A]; try rfl) t d).trans
    (by unfold Dat.fetched Dat.blockOf blk1; rw [dat1_A]; try rfl)
theorem before1_1 (c : Dev nD) (t : Fin cfg1.N) (d) : (dat1 V c).before 1 t d = blk1 V c 1 t :=
  ((dat1 V c).before_in_eq_fetched 1 rfl (fun _ => rfl) (fun _ _ _ => rfl) (fun t => by rw [after1_1]; unfold Dat.blockOf blk1; rw [dat1_A]; try rfl) t d).trans
    (by unfold Dat.fetched Dat.blockOf blk1; rw [dat1_A]; try rfl)
theorem before1_2 (c : Dev nD) (t : Fin cfg1.N) (d) : (dat1 V c).before 2 t d = blk1 V c 2 t :=
  ((dat1 V c).before_in_eq_fetched 2 rfl (fun _ => rfl) (fun _ _ _ => rfl) (fun t => by rw [after1_2]; unfold Dat.blockOf blk1; rw [dat1_A]; try rfl) t d).trans
    (by unfold Dat.fetched Dat.blockOf blk1; rw [dat1_A]; try rfl)
theorem before1_3 (c : Dev nD) (t : Fin cfg1.N) (d) : (dat1 V c).before 3 t d = blk1 V c 3 t :=
  ((dat1 V c).before_in_eq_fetched 3 rfl (fun _ => rfl) (fun _ _ _ => rfl) (fun t => by rw [after1_3]; unfold Dat.blockOf blk1; rw [dat1_A]; try rfl) t d).trans
    (by unfold Dat.fetched Dat.blockOf blk1; rw [dat1_A]; try rfl)
theorem before1_4 (c : Dev nD) (t : Fin cfg1.N) (d) : (dat1 V c).before 4 t d = blk1 V c 4 t :=
  ((dat1 V c).before_in_eq_fetched 4 rfl (fun _ => rfl) (fun _ _ _ => rfl) (fun t => by rw [after1_4]; unfold Dat.blockOf blk1; rw [dat1_A]; try rfl) t d).trans
    (by unfold Dat.fetched Dat.blockOf blk1; rw [dat1_A]; try rfl)
theorem before1_5 (c : Dev nD) (t : Fin cfg1.N) (d) : (dat1 V c).before 5 t d = blk1 V c 5 t :=
  ((dat1 V c).before_in_eq_fetched 5 rfl (fun _ => rfl) (fun _ _ _ => rfl) (fun t => by rw [after1_5]; unfold Dat.blockOf blk1; rw [dat1_A]; try rfl) t d).trans
    (by unfold Dat.fetched Dat.blockOf blk1; rw [dat1_A]; try rfl)
theorem before1_6 (c : Dev nD) (t : Fin cfg1.N) (d) : (dat1 V c).before 6 t d = blk1 V c 6 t :=
  ((dat1 V c).before_in_eq_fetched 6 rfl (fun _ => rfl) (fun _ _ _ => rfl) (fun t => by rw [after1_6]; unfold Dat.blockOf blk1; rw [dat1_A]; try rfl) t d).trans
    (by unfold Dat.fetched Dat.blockOf blk1; rw [dat1_A]; try rfl)
theorem before1_7 (c : Dev nD) (t : Fin cfg1.N) (d) : (dat1 V c).before 7 t d = blk1 V c 7 t :=
  ((dat1 V c).before_in_eq_fetched 7 rfl (fun _ => rfl) (fun _ _ _ => rfl) (fun t => by rw [after1_7]; unfold Dat.blockOf blk1; rw [dat1_A]; try rfl) t d).trans
    (by unfold Dat.fetched Dat.blockOf blk1; rw [dat1_A]; try rfl)

/-! ## The blocks are the operands -/

theorem blk1_0 (c : Dev nD) (t : Fin cfg1.N) : blk1 V c 0 t = (operands V c).fb := rfl
theorem blk1_1 (c : Dev nD) (t : Fin cfg1.N) : blk1 V c 1 t = (operands V c).ft := rfl
theorem blk1_2 (c : Dev nD) (t : Fin cfg1.N) : blk1 V c 2 t = (operands V c).sc := rfl
theorem blk1_3 (c : Dev nD) (t : Fin cfg1.N) : blk1 V c 3 t = (operands V c).sr := rfl
theorem blk1_4 (c : Dev nD) (t : Fin cfg1.N) : blk1 V c 4 t = (operands V c).ut := rfl
theorem blk1_6 (c : Dev nD) (t : Fin cfg1.N) : blk1 V c 6 t only = (operands V c).wb := rfl
theorem blk1_7 (c : Dev nD) (t : Fin cfg1.N) : blk1 V c 7 t only = (operands V c).ws := rfl

/-- Where the spatial kernel's block at point `t` starts. -/
def off1_5 (t : Fin cfg1.N) : Fin 2 → ℕ := fun a => (cfg1.win 5).index t a * S3072x1024.size a

theorem off1_5_inb : ∀ (t : Fin cfg1.N) (a : Fin 2), off1_5 t a + S3072x1024.size a ≤ S3072x4096.size a := by decide +kernel

theorem off1_5_eq : ∀ t : Fin cfg1.N, 4 ≤ t.val → off1_5 t = ![0, 1024 * (t.val % 4)] := by decide +kernel

theorem blk1_5_box (c : Dev nD) (t : Fin cfg1.N) :
    blk1 V c 5 t = box (s := S3072x4096) (e := .bf16) (V c main_call0_v37) (off1_5 t) S3072x1024.size (off1_5_inb t) := rfl

/-- The spatial kernel's block at an iterating point is the one of its column block. -/
theorem blk1_5 (c : Dev nD) (t : Fin cfg1.N) (ht : 4 ≤ t.val) :
    blk1 V c 5 t = (operands V c).ks ⟨t.val % 4, Nat.mod_lt _ (by decide)⟩ := by
  refine (blk1_5_box V c t).trans (Eq.trans (box_congr _ ?_ _ _) (blk1_5_box V c (pt (4 + t.val % 4) (by omega))).symm)
  rw [off1_5_eq t ht, off1_5_eq (pt (4 + t.val % 4) (by omega)) (by show 4 ≤ 4 + t.val % 4; omega)]
  show ![0, 1024 * (t.val % 4)] = ![0, 1024 * ((4 + t.val % 4) % 4)]
  rw [show (4 + t.val % 4) % 4 = t.val % 4 by omega]

/-! ## The body at a point -/

/-- What the last sweep's earlier points left in the output's buffer. -/
theorem found8 (c : Dev nD) (t : Fin cfg1.N) (Y : S21x4096.Idx → Elt F .f32) (h : ((dat1 V c).toRRel part1 (Rl1 V c)).Finds 8 t Y) :
    ∀ y : S21x4096.Idx, (y 1).val < 1024 * (t.val - 20) → Y y = (operands V c).result y := by
  intro y hy
  have h24 : t.val < 24 := lt_of_lt_of_eq t.isLt N_1
  rw [((dat1 V c).toRRel part1 (Rl1 V c)).finds_of_pos (Window.fetch_out _ rfl t) (by omega)] at h
  rcases h with h | h
  · have := (flush1_8 _).mp h
    dsimp only at this
    omega
  · exact (dat1 V c).toRRel_leaves (w := 8) rfl h y (by show (y 1).val < 1024 * (t.val - 1 - 19); omega)

/-- What the body is called with at point `t`, the windows one by one, -/
def pre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ Y, ⌜((dat1 V c).toRRel part1 (Rl1 V c)).Finds 8 t Y⌝ ∗ owns (c : Thread nD τ) (st1_8 t) fullShare Y))

/-- and what it returns. -/
def post1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ (∃ X, ⌜Rl1 V c 8 t X⌝ ∗ owns (c : Thread nD τ) (st1_8 t) fullShare X))

/-- The row block a building point stores is the bilateral kernel's. -/
theorem built (c : Dev nD) (t : Fin cfg1.N) (h : t.val < 4) (h1 : k1_cond1 (grid1.coords t) = 1#1) :
    k1_pay1 (grid1.coords t) (box (blk1 V c 0 t) (k1_off1 (grid1.coords t)) S1024x8.size (k1_off1_inb _ h1)) (blk1 V c 1 t)
      (box (blk1 V c 2 t) (k1_off2 (grid1.coords t)) S1024x1.size (k1_off2_inb _ h1)) (blk1 V c 3 t) = (operands V c).bilRows ⟨t.val, h⟩ := by
  unfold Operands.bilRows
  rw [blk1_0, blk1_1, blk1_2, blk1_3]
  have e1 := off1_eq t
  have e2 := off2_eq t
  rw [show t.val % 4 = t.val by omega] at e1 e2
  rw [box_congr (s := S4096x8) (e := .f32) (operands V c).fb e1, box_congr (s := S4096x1) (e := .f32) (operands V c).sc e2]

/-- The exponentials an iterating point computes are those of its column block, whichever offsets it spells. -/
theorem computed (c : Dev nD) (t : Fin cfg1.N) (h : 4 ≤ t.val) (q : Vec F S21x4096 .bf16) {offw offk offu : Fin 2 → ℕ}
    (hw : offw = ![0, winStart ⟨t.val % 4, Nat.mod_lt _ (by decide)⟩]) (hk : offk = ![0, 1024 * (t.val % 4)]) (hu : offu = ![0, 1024 * (t.val % 4)])
    (iw : ∀ a, offw a + S21x3072.size a ≤ S21x4096.size a) (ik : ∀ a, offk a + S4096x1024.size a ≤ S4096x4096.size a)
    (iu : ∀ a, offu a + S21x1024.size a ≤ S21x4096.size a) :
    k1_pay7 q (box (s := S21x4096) (e := .bf16) q offw S21x3072.size iw) (box (s := S4096x4096) (e := .bf16) (operands V c).bil offk S4096x1024.size ik)
      (blk1 V c 5 t) (blk1 V c 6 t only) (blk1 V c 7 t only) (box (s := S21x4096) (e := .f32) (blk1 V c 4 t) offu S21x1024.size iu)
      = (operands V c).energy q ⟨t.val % 4, Nat.mod_lt _ (by decide)⟩ := by
  subst hw hk hu
  rw [blk1_5 V c t h, blk1_6, blk1_7, blk1_4]
  rfl

/-- Before the last sweep nothing is said of the output's buffer. -/
theorem noCols (c : Dev nD) (t : Fin cfg1.N) (h : t.val < 20) (Y : S21x4096.Idx → Elt F .f32) : Rl1 V c 8 t Y := by
  intro y hy
  replace hy : (y 1).val < 1024 * (t.val - 19) := hy
  omega

/-- A point of the last sweep stores one more column block of the result. -/
theorem lastCols (c : Dev nD) (t : Fin cfg1.N) (h : 20 ≤ t.val) (Y : S21x4096.Idx → Elt F .f32)
    (hY : ∀ y : S21x4096.Idx, (y 1).val < 1024 * (t.val - 20) → Y y = (operands V c).result y) {off : Fin 2 → ℕ} (hoff : off = ![0, 1024 * (t.val % 4)])
    (w : FVec F S21x1024 .f32) (hw : w = k1_pay3 ((operands V c).energy ((operands V c).iter (t.val / 4 - 1)) ⟨t.val % 4, Nat.mod_lt _ (by decide)⟩)) :
    Rl1 V c 8 t (put (e := .f32) Y off S21x1024.size w) := by
  have h24 : t.val < 24 := lt_of_lt_of_eq t.isLt N_1
  rw [show t.val / 4 - 1 = 4 by omega] at hw
  subst hw
  intro y hy
  replace hy : (y 1).val < 1024 * (t.val - 19) := hy
  exact put_cols (e := .f32) (fun j => k1_pay3 ((operands V c).energy ((operands V c).iter 4) j)) Y ⟨t.val % 4, Nat.mod_lt _ (by decide)⟩
    (fun y hy => hY y (by replace hy : (y 1).val < 1024 * (t.val % 4) := hy; omega)) hoff y (by show (y 1).val < 1024 * (t.val % 4 + 1); omega)

set_option maxHeartbeats 4000000 in
/-- The body at any point of the second region. -/
theorem sound1 (c : Dev nD) (t : Fin cfg1.N) :
    pre1 V c t ⊢ wp frame (wpE (defs₀ (F := F)) Variants.none c none) Set.univ (bodyAt1 t) (fun _ => post1 V c t) := by
  have h24 : t.val < 24 := lt_of_lt_of_eq t.isLt N_1
  unfold pre1 post1 bodyAt1
  simp only [before1_0, after1_0, before1_1, after1_1, before1_2, after1_2, before1_3, after1_3, before1_4, after1_4, before1_5, after1_5, before1_6, after1_6, before1_7, after1_7]
  rw [show (dat1 V c).owesAt () t.succ = (dat1 V c).owesAt () t.castSucc from rfl]
  rw [show (dat1 V c).Φ t.castSucc = scratch V c t.val from rfl, show (dat1 V c).Φ t.succ = scratch V c (t.val + 1) from rfl]
  unfold scratch
  iintro ⟨⟨Hr, %kb, %qa, %qb, %hI, Hkb, Hqa, Hqb⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%Y, %hY, H8⟩⟩
  have hY' := found8 V c t Y hY
  by_cases h4 : t.val < 4
  · have c1 := (cond1_iff t).mpr h4
    have c3 : ¬ k1_cond3 (grid1.coords t) = 1#1 := fun h => by have := (cond3_iff t).mp h; omega
    have c5 : ¬ k1_cond5 (grid1.coords t) = 1#1 := fun h => by have := (cond5_iff t).mp h; omega
    have e3 := off3_eq t
    rw [show t.val % 4 = t.val by omega] at e3
    by_cases h0 : t.val = 0
    · have c2 := (cond2_iff t).mpr (by omega)
      iapply (runBuildFirst c (grid1.coords t) _ _ _ _ _ _ _ _ _ _ _ _ _ _ _ _ _ _ _ _ _ _ _ _ (blk1 V c 0 t) (blk1 V c 1 t) (blk1 V c 2 t) (blk1 V c 3 t) (blk1 V c 4 t) kb qa c1 c2 c3 c5 Set.univ _)
      isplitl [H0]; · iexact H0
      isplitl [H1]; · iexact H1
      isplitl [H2]; · iexact H2
      isplitl [H3]; · iexact H3
      isplitl [H4]; · iexact H4
      isplitl [Hkb]; · iexact Hkb
      isplitl [Hqa]; · iexact Hqa
      iintro ⟨H0, H1, H2, H3, H4, Hkb, Hqa⟩
      isplitl [Hr Hkb Hqa Hqb]
      · isplitl [Hr]; · iexact Hr
        iexists _; iexists _; iexists _
        isplitr; · ipureintro; exact hI.build h4 e3 _ (built V c t h4 c1) (congrArg k1_pay2 (blk1_4 V c t))
        isplitl [Hkb]; · iexact Hkb
        isplitl [Hqa]; · iexact Hqa
        iexact Hqb
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists Y; isplitr; · ipureintro; exact noCols V c t (by omega) Y
      iexact H8
    · have c2 := (cond2_iff t).not.mpr (by omega)
      iapply (runBuild c (grid1.coords t) _ _ _ _ _ _ _ _ _ _ _ _ _ _ _ _ _ _ _ _ _ _ _ _ (blk1 V c 0 t) (blk1 V c 1 t) (blk1 V c 2 t) (blk1 V c 3 t) kb c1 c2 c3 c5 Set.univ _)
      isplitl [H0]; · iexact H0
      isplitl [H1]; · iexact H1
      isplitl [H2]; · iexact H2
      isplitl [H3]; · iexact H3
      isplitl [Hkb]; · iexact Hkb
      iintro ⟨H0, H1, H2, H3, Hkb⟩
      isplitl [Hr Hkb Hqa Hqb]
      · isplitl [Hr]; · iexact Hr
        iexists _; iexists _; iexists _
        isplitr; · ipureintro; exact hI.build h4 e3 _ (built V c t h4 c1) (hI.2.1 (by omega) (by omega))
        isplitl [Hkb]; · iexact Hkb
        isplitl [Hqa]; · iexact Hqa
        iexact Hqb
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists Y; isplitr; · ipureintro; exact noCols V c t (by omega) Y
      iexact H8
  have c1 : ¬ k1_cond1 (grid1.coords t) = 1#1 := fun h => h4 ((cond1_iff t).mp h)
  replace h4 : 4 ≤ t.val := by omega
  have hkb := hI.kb_eq h4
  subst hkb
  by_cases hodd : t.val / 4 % 2 = 1
  · have c3 := (cond3_iff t).mpr hodd
    have c5 : ¬ k1_cond5 (grid1.coords t) = 1#1 := fun h => by have := (cond5_iff t).mp h; omega
    have hq := (hI.2.2.1 h4 hodd).1
    subst hq
    have hE := computed V c t h4 ((operands V c).iter (t.val / 4 - 1)) (off4_eq t) (off5_eq t) (off6_eq t)
    by_cases hl : 20 ≤ t.val
    · have c4 := (cond4_iff t).mpr hl
      iapply (runLast c (grid1.coords t) _ _ _ _ _ _ _ _ _ _ _ _ _ _ _ _ _ _ _ _ _ _ _ _ (blk1 V c 4 t) (blk1 V c 5 t) (blk1 V c 6 t) (blk1 V c 7 t) Y (operands V c).bil ((operands V c).iter (t.val / 4 - 1)) qb c1 c3 c4 c5 Set.univ _)
      isplitl [H4]; · iexact H4
      isplitl [H5]; · iexact H5
      isplitl [H6]; · iexact H6
      isplitl [H7]; · iexact H7
      isplitl [H8]; · iexact H8
      isplitl [Hkb]; · iexact Hkb
      isplitl [Hqa]; · iexact Hqa
      isplitl [Hqb]; · iexact Hqb
      iintro ⟨H4, H5, H6, H7, H8, Hkb, Hqa, Hqb⟩
      isplitl [Hr Hkb Hqa Hqb]
      · isplitl [Hr]; · iexact Hr
        iexists _; iexists _; iexists _
        isplitr; · ipureintro; exact hI.odd hodd (off6_eq t) _ (congrArg k1_pay4 (hE (k1_off4_inb _ c3) (k1_off5_inb _ c3) (k1_off6_inb _ c3)))
        isplitl [Hkb]; · iexact Hkb
        isplitl [Hqa]; · iexact Hqa
        iexact Hqb
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists (put (s := S21x4096) (e := .f32) Y (k1_off7 (grid1.coords t)) S21x1024.size _); isplitr; · ipureintro; exact (lastCols V c t hl Y hY' (off7_eq t) _ (congrArg k1_pay3 (hE (k1_off4_inb _ c3) (k1_off5_inb _ c3) (k1_off6_inb _ c3))))
      iexact H8
    · have c4 : ¬ k1_cond4 (grid1.coords t) = 1#1 := fun h => hl ((cond4_iff t).mp h)
      iapply (runOdd c (grid1.coords t) _ _ _ _ _ _ _ _ _ _ _ _ _ _ _ _ _ _ _ _ _ _ _ _ (blk1 V c 4 t) (blk1 V c 5 t) (blk1 V c 6 t) (blk1 V c 7 t) (operands V c).bil ((operands V c).iter (t.val / 4 - 1)) qb c1 c3 c4 c5 Set.univ _)
      isplitl [H4]; · iexact H4
      isplitl [H5]; · iexact H5
      isplitl [H6]; · iexact H6
      isplitl [H7]; · iexact H7
      isplitl [Hkb]; · iexact Hkb
      isplitl [Hqa]; · iexact Hqa
      isplitl [Hqb]; · iexact Hqb
      iintro ⟨H4, H5, H6, H7, Hkb, Hqa, Hqb⟩
      isplitl [Hr Hkb Hqa Hqb]
      · isplitl [Hr]; · iexact Hr
        iexists _; iexists _; iexists _
        isplitr; · ipureintro; exact hI.odd hodd (off6_eq t) _ (congrArg k1_pay4 (hE (k1_off4_inb _ c3) (k1_off5_inb _ c3) (k1_off6_inb _ c3)))
        isplitl [Hkb]; · iexact Hkb
        isplitl [Hqa]; · iexact Hqa
        iexact Hqb
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists Y; isplitr; · ipureintro; exact noCols V c t (by omega) Y
      iexact H8
  · have h8 : 8 ≤ t.val := by omega
    have heven : t.val / 4 % 2 = 0 := by omega
    have c3 : ¬ k1_cond3 (grid1.coords t) = 1#1 := fun h => hodd ((cond3_iff t).mp h)
    have c5 := (cond5_iff t).mpr ⟨h8, heven⟩
    have c6 : ¬ k1_cond6 (grid1.coords t) = 1#1 := fun h => by have := (cond6_iff t).mp h; omega
    have hq := (hI.2.2.2 h8 heven).1
    subst hq
    have hE := computed V c t h4 ((operands V c).iter (t.val / 4 - 1)) (off8_eq t) (off9_eq t) (off10_eq t)
    iapply (runEven c (grid1.coords t) _ _ _ _ _ _ _ _ _ _ _ _ _ _ _ _ _ _ _ _ _ _ _ _ (blk1 V c 4 t) (blk1 V c 5 t) (blk1 V c 6 t) (blk1 V c 7 t) (operands V c).bil qa ((operands V c).iter (t.val / 4 - 1)) c1 c3 c5 c6 Set.univ _)
    isplitl [H4]; · iexact H4
    isplitl [H5]; · iexact H5
    isplitl [H6]; · iexact H6
    isplitl [H7]; · iexact H7
    isplitl [Hkb]; · iexact Hkb
    isplitl [Hqa]; · iexact Hqa
    isplitl [Hqb]; · iexact Hqb
    iintro ⟨H4, H5, H6, H7, Hkb, Hqa, Hqb⟩
    isplitl [Hr Hkb Hqa Hqb]
    · isplitl [Hr]; · iexact Hr
      iexists _; iexists _; iexists _
      isplitr; · ipureintro; exact hI.even h8 heven (off10_eq t) _ (congrArg k1_pay4 (hE (k1_off8_inb _ c5) (k1_off9_inb _ c5) (k1_off10_inb _ c5)))
      isplitl [Hkb]; · iexact Hkb
      isplitl [Hqa]; · iexact Hqa
      iexact Hqb
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexists Y; isplitr; · ipureintro; exact noCols V c t (by omega) Y
    iexact H8

/-- The body table's row at point `t`'s slots is the second region's body. -/
theorem row1 (t : Fin cfg1.N) :
    defs₀ (F := F) .tc cfg1.body (cfg1.bodyArgs t (cfg1.slots t)) = bodyAt1 t := by
  unfold defs₀; rw [Defs.onTc_tc]

/-- The second region's body obligation. -/
theorem obligation1 (c : Dev nD) : BodyObligationRel (dat1 V c) (defs₀ (F := F)) Variants.none () Set.univ part1 (Rl1 V c) := fun t => by
  rw [bigSep_W1, bigSep_W1, row1]
  exact triple_restated (sound1 V c t) rfl .rfl fun _ => .rfl

end Cert.KernelIdeal.Crf

end
-- ==== Proof.Kern.Record.lean ====
module

public import Idealize.ShloMosaic.Lib.Pipeline.RegionArraysF
public import Idealize.ShloMosaic.Lib.Pipeline.RegionArraysS
public import Idealize.ShloMosaic.Lib.Pipeline.DatRel
public import Idealize.ShloMosaic.Lib.Pipeline.ArrRel

/-! A kernel region whose output buffers are known only in part between points, but whose arrays are known exactly at
the end: entered with a set of buffers held at given contents, left with the same set at the contents after the region. -/

@[expose] public section

noncomputable section

namespace Cert.ExactRegion

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {nD : Nat} {τ : Topo} {sig : RefSig} {Val : EltTy → Type}
variable {Ix : Type} [DecidableEq Ix] {Name : Type} [DecidableEq Name] {U : Type} [URA U] {Lvl : Type} [Preorder Lvl]

local notation "𝕄" => MT nD τ sig Ix Val Name U Lvl

variable {Λ₀ : Idealize.SL.Sem.Labels} {P : Type} [Fintype P]

/-- When every array's final contents are those of the exact data, the arrays after the region are held at them. -/
theorem arraysAt_exact [∀ e, Nonempty (Val e)] {cfg : Cfg sig Λ₀} {c : Dev nD} (dat : Dat τ Val Ix Name U Lvl cfg c) (fg : Fin cfg.W → Bool)
    (Rl : (w : Fin cfg.W) → Fin cfg.N → ((cfg.win w).block.Idx → Val (cfg.win w).elt) → Prop)
    (h : ∀ w G, (dat.toRRel fg Rl).ArrAt w cfg.N G → G = dat.arrAt w cfg.N) :
    ((dat.toRRel fg Rl).arraysAt cfg.N : sProp 𝕄) ⊢ dat.arrays (dat.arrAt · cfg.N) := by
  unfold RDat.arraysAt Dat.arrays
  refine (BI.bigSep_exists_pi Finset.univ _).trans ?_
  iintro ⟨%A, H⟩
  ihave H' := (BI.bigSep_pure_sep Finset.univ (fun w => (dat.toRRel fg Rl).ArrAt w cfg.N (A w)) _) $$ H
  icases H' with ⟨%hA, H⟩
  obtain rfl : A = (dat.arrAt · cfg.N) := funext fun w => h w (A w) (hA w (Finset.mem_univ w))
  iexact H

variable (pcs : P → PCfg sig Λ₀ Val) (a : (p : P) → (pcs p).Adm)
  (pdats : (p : P) → (c : Dev nD) → Dat τ Val Ix Name U Lvl (pin pcs a p) c)
  (fg : (p : P) → Fin (pin pcs a p).W → Bool)
  (Rl : (p : P) → Dev nD → (w : Fin (pin pcs a p).W) → Fin (pin pcs a p).N → (((pin pcs a p).win w).block.Idx → Val ((pin pcs a p).win w).elt) → Prop)
  (ι : Ix) (defs₀ : Defs nD τ sig Val Λ₀) (𝒱₀ : Variants)
  (L : GSem nD τ sig → Finset Ix) (lv : GSem nD τ sig → Ix → Lvl) (p : P)

/-- The exact data of every region read as relations, the marked windows held to `Rl`. -/
abbrev rel (q : P) (c : Dev nD) : RDat τ Val Ix Name U Lvl (pin pcs a q) c := (pdats q c).toRRel (fg q) (Rl q c)

/-- The region as a segment: no semaphore of its own, nothing owed, and the buffers `S` at `W c` before it and at
`afterRegion` of `W c` after it. -/
def seg [∀ e, Nonempty (Val e)] (S : Finset (DevRef τ sig)) (hS : arrRefs (pcs p).spec ⊆ S) (osem : Fin 0 → SemLoc sig) (ho : OwnSemFacts (pcs p).spec osem)
    (kit : PLaunchFacts (nD := nD) (τ := τ) pcs p) (hK : (pcs p).pre.K = 0)
    (hbody : ∀ c, BodyObligationRel (pdats p c) defs₀ 𝒱₀ ι Set.univ (fg p) (Rl p c))
    (howed : ∀ c t, (pdats p c).owed t = 0) (hrec : ∀ c, (pdats p c).recorded 0 = Set.univ)
    (hshare : ∀ c w, (pdats p c).share w = fullShare)
    (hin : ∀ c, (scopedRest (pin pcs a p).spec c : sProp 𝕄) ⊢ (pdats p c).Φ 0)
    (hout : ∀ c, (pdats p c).Φ (Fin.last (pin pcs a p).N) ⊢ (scopedRest (pin pcs a p).spec c : sProp 𝕄))
    (hexact : ∀ c w G, (rel pcs a pdats fg Rl p c).ArrAt w (pin pcs a p).N G → G = (pdats p c).arrAt w (pin pcs a p).N)
    (W : Dev nD → Valuation τ sig Val)
    (hW : ∀ c w, (pdats p c).A w = W c (Proc.devRef .tc (arrRef (pin pcs a p).spec w))) :
    RDat.RegionSeg pcs a (rel pcs a pdats fg Rl) ι defs₀ 𝒱₀ L lv p where
  win := kit.win.to₀
  block_pos := kit.block_pos
  stage_whole := kit.stage_whole
  K := Fin 0
  osem := osem
  ho := ho
  hbody c := (hbody c).toRRel
  hwaits := RDat.hwaits_of_owed_zero _ _ _ _ L lv p howed
  pre c := iprop(StableHlo.held (c.tc : Thread nD τ) S (W c) ∗ ∃ Wd, owes (c : Thread nD τ) (0 : CellTallies nD τ sig Ix) Wd)
  post c := iprop(StableHlo.held (c.tc : Thread nD τ) S (afterRegion (pdats p c) (W c)) ∗ ∃ Wd, owes (c : Thread nD τ) (0 : CellTallies nD τ sig Ix) Wd)
  X _ := iprop(emp)
  Y _ := iprop(emp)
  Z c := StableHlo.held (c.tc : Thread nD τ) (S \ arrRefs (pcs p).spec) (W c)
  hentry c := by
    show _ ⊢ |={Set.univ}=> iprop((pdats p c).arrays (pdats p c).A ∗ prefHeld (pcs p).pre c (fun _ => fullShare) (a p).1
        ∗ (pdats p c).owesAt ι 0 ∗ _ ∗ _)
    rw [prefHeld_of_none _ hK, arrays_held pcs a pdats p kit c (hshare c) (pdats p c).A (W c) (hW c),
      StableHlo.held_sub_split (c.tc : Thread nD τ) hS (W c)]
    iintro ⟨⟨⟨Ha, Hu⟩, HO⟩, -, -⟩
    imodintro
    isplitl [Ha]; · iexact Ha
    isplitr; · iempintro
    isplitl [HO]
    · unfold Dat.owesAt owesWithin Dat.bound
      rw [howed c 0, hrec c]
      icases HO with ⟨%Wd, HO⟩; iexists Wd; isplitr; · ipureintro; exact fun _ _ => Or.inl trivial
      iexact HO
    isplitr; · iempintro
    iexact Hu
  hin c := (show _ ⊢ (scopedRest (pin pcs a p).spec c : sProp 𝕄) from by iintro ⟨-, -, H⟩; iexact H).trans (hin c)
  hout c := (hout c).trans (by
    unfold ownSems0
    rw [show (Finset.univ : Finset (Fin 0)) = ∅ from rfl, BI.bigSep_empty]
    iintro H
    isplitr; · iempintro
    isplitr; · iempintro
    iexact H)
  hexit c := by
    show iprop(((pdats p c).toRRel (fg p) (Rl p c)).arraysAt (pin pcs a p).N ∗ (pdats p c).owesAt ι (Fin.last (pin pcs a p).N) ∗ _ ∗ _) ⊢ _
    rw [StableHlo.held_sub_split (c.tc : Thread nD τ) hS (afterRegion (pdats p c) (W c)),
      StableHlo.held_congr (c.tc : Thread nD τ) (S := S \ arrRefs (pcs p).spec) (V := afterRegion (pdats p c) (W c)) (V' := W c) (afterRegion_off (pdats p c) (W c) S),
      ← arrays_held pcs a pdats p kit c (hshare c) ((pdats p c).arrAt · (pin pcs a p).N) (afterRegion (pdats p c) (W c))
        (fun w => (afterRegion_arr (pdats p c) (W c) kit.win.arr_inj w).symm)]
    iintro ⟨Ha, HO, -, Hu⟩
    ihave Ha := (arraysAt_exact (pdats p c) (fg p) (Rl p c) (hexact c)) $$ Ha
    imodintro
    isplitl [Ha Hu]
    · isplitl [Ha]; · iexact Ha
      iexact Hu
    unfold Dat.owesAt owesWithin
    rw [howed c (Fin.last _)]
    icases HO with ⟨%Wd, -, HO⟩; iexists Wd; iexact HO

end Cert.ExactRegion

end
-- ==== Proof.Kern.Chain.lean ====
module

public import proofs.«01_k».proof.Proof.Kern.Region1
public import proofs.«01_k».proof.Proof.Kern.Record
public import Idealize.ShloMosaic.Lib.Pipeline.Regions
public import Idealize.ShloMosaic.Lib.Pipeline.Frame

/-! The buffers' contents between the program's items, and the two regions as segments between those contents. -/

@[expose] public section

set_option maxRecDepth 16384

noncomputable section

namespace Cert.KernelIdeal.Crf

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The contents between items -/

/-- A core's unscoped buffers at launch. -/
def V0 (c : Dev nD) : Valuation τ sig (Elt F) := fun b => m (c, b)
/-- They after the host's first operations: centering, scaling, squares, paddings. -/
def V1 (c : Dev nD) : Valuation τ sig (Elt F) := StableHlo.after hostOps0 (V0 m c)
/-- They as the first region finds them. -/
def C1 : Contents F := fun c b => V1 m c b
/-- They after the region of the spatial Gaussian. -/
def V2 (c : Dev nD) : Valuation τ sig (Elt F) := Pipeline.afterRegion (dat0 (C1 m) c) (V1 m c)
/-- They after the two reshaped copies of the squares. -/
def V3 (c : Dev nD) : Valuation τ sig (Elt F) := StableHlo.after hostOps1 (V2 m c)
/-- They as the second region finds them. -/
def C3 : Contents F := fun c b => V3 m c b
/-- They after the region of the iterations. -/
def V4 (c : Dev nD) : Valuation τ sig (Elt F) := Pipeline.afterRegion (dat1 (C3 m) c) (V3 m c)
/-- They at the end, the result transposed and reshaped. -/
def V5 (c : Dev nD) : Valuation τ sig (Elt F) := StableHlo.after hostOps2 (V4 m c)

theorem hostOps0_new : (hostOps0 : List (HloOp τ sig (Elt F))).Forall fun op => op.fresh = ∅ := by
  simp only [List.Forall]; repeat' constructor
/-- What stretch 0 writes, in order. -/
abbrev written0 : List (Ref sig .tc) := [main_call0_v0, main_call0_v1, main_call0_v2, main_call0_v3, main_call0_v4, main_call0_v5, main_call0_v6, main_call0_v7, main_call0_v8, main_call0_v9, main_call0_v10, main_call0_cst, main_call0_v11, main_call0_v12, main_call0_cst_0, main_call0_v13, main_call0_v14, main_call0_v15, main_call0_cst_1, main_call0_v16, main_call0_v17, main_call0_cst_2, main_call0_v18, main_call0_cst_3, main_call0_v19, main_call0_v20, main_call0_v21, main_call0_v22, main_call0_v23, main_call0_v24, main_call0_v25, main_call0_cst_4, main_call0_v26, main_call0_cst_5, main_call0_v27, main_call0_v28, main_call0_v29, main_call0_cst_6, main_call0_v30, main_call0_cst_7, main_call0_v31, main_call0_v32, main_call0_v33, main_call0_v34, main_call0_v35, main_call0_v36]
theorem after0_of (W : Valuation τ sig (Elt F)) (r : Ref sig .tc) (h : r ∉ written0) : StableHlo.after hostOps0 W r = W r :=
  StableHlo.after_of_writes_sub hostOps0 _ (StableHlo.forall_writes_sub_of_map (W := written0) rfl) h

theorem hostOps1_new : (hostOps1 : List (HloOp τ sig (Elt F))).Forall fun op => op.fresh = ∅ := by
  simp only [List.Forall]; repeat' constructor
/-- What stretch 1 writes, in order. -/
abbrev written1 : List (Ref sig .tc) := [main_call0_v38, main_call0_v39]
theorem after1_of (W : Valuation τ sig (Elt F)) (r : Ref sig .tc) (h : r ∉ written1) : StableHlo.after hostOps1 W r = W r :=
  StableHlo.after_of_writes_sub hostOps1 _ (StableHlo.forall_writes_sub_of_map (W := written1) rfl) h

theorem hostOps2_new : (hostOps2 : List (HloOp τ sig (Elt F))).Forall fun op => op.fresh = ∅ := by
  simp only [List.Forall]; repeat' constructor
/-- What stretch 2 writes, in order. -/
abbrev written2 : List (Ref sig .tc) := [main_call0_v41, main_v0]
theorem after2_of (W : Valuation τ sig (Elt F)) (r : Ref sig .tc) (h : r ∉ written2) : StableHlo.after hostOps2 W r = W r :=
  StableHlo.after_of_writes_sub hostOps2 _ (StableHlo.forall_writes_sub_of_map (W := written2) rfl) h

/-! ## What each item leaves alone -/

theorem V2_of (c : Dev nD) (r : Ref sig .tc) (h : ∀ w, Pipeline.arrRef spec0 w = r → (spec0 w).isOut = false) : V2 m c r = V1 m c r :=
  Pipeline.afterRegion_keeps (dat0 (C1 m) c) (V1 m c) launch0.win.arr_inj (fun w => dat0_A (C1 m) c w) r h
theorem V4_of (c : Dev nD) (r : Ref sig .tc) (h : ∀ w, Pipeline.arrRef spec1 w = r → (spec1 w).isOut = false) : V4 m c r = V3 m c r :=
  Pipeline.afterRegion_keeps (dat1 (C3 m) c) (V3 m c) launch1.win.arr_inj (fun w => dat1_A (C3 m) c w) r h

/-- A buffer that no stretch writes and that is no region's output ends as launched. -/
theorem V5_arg (c : Dev nD) (r : Ref sig .tc) (h0 : r ∉ written0) (h1 : r ∉ written1) (h2 : r ∉ written2)
    (k0 : ∀ w, Pipeline.arrRef spec0 w = r → (spec0 w).isOut = false) (k1 : ∀ w, Pipeline.arrRef spec1 w = r → (spec1 w).isOut = false) :
    V5 m c r = m ((c : Thread nD τ).loc r) :=
  (after2_of _ r h2).trans <| (V4_of m c r k1).trans <| (after1_of _ r h1).trans <| (V2_of m c r k0).trans <| after0_of _ r h0

/-! ## The regions as segments -/

/-- No region reads a table first. -/
abbrev tables : (p : Fin 2) → (pcfgs (F := F) p).Adm := fun p => (cfgs p).toPCfg_adm

/-- The exact data of each region. -/
def dats : (p : Fin 2) → (c : Dev nD) → Dat τ (Elt F) Unit ℕ (UR sig nD τ) ℕ (cfgs p) c
  | 0, c => dat0 (C1 m) c
  | 1, c => dat1 (C3 m) c
  | ⟨_ + 2, h⟩, _ => absurd h (Nat.not_lt.2 (Nat.le_add_left _ _))

/-- The windows known only in part between points: the iterations' output. -/
def inPart : (p : Fin 2) → Fin (cfgs p).W → Bool
  | 0 => fun _ => false
  | 1 => part1
  | ⟨_ + 2, h⟩ => absurd h (Nat.not_lt.2 (Nat.le_add_left _ _))

/-- What is known of them. -/
def known : (p : Fin 2) → Dev nD → (w : Fin (cfgs p).W) → Fin (cfgs p).N → (((cfgs p).win w).block.Idx → Elt F ((cfgs p).win w).elt) → Prop
  | 0, _ => fun _ _ _ => True
  | 1, c => Rl1 (C3 m) c
  | ⟨_ + 2, h⟩, _ => absurd h (Nat.not_lt.2 (Nat.le_add_left _ _))

/-- The first region's obligation with no window known in part. -/
theorem obligation0' (c : Dev nD) : Pipeline.BodyObligationRel (dat0 (C1 m) c) (defs₀ (F := F)) Variants.none () Set.univ (fun _ => false) (fun _ _ _ => True) := fun t => by
  rw [bigSep_W0, bigSep_W0, row0]
  exact triple_restated (sound0 (C1 m) c t) rfl .rfl fun _ => .rfl

/-- The first region's arrays end as its exact data say. -/
theorem exact0 (c : Dev nD) (w : Fin cfg0.W) (G) (h : ((dat0 (C1 m) c).toRRel (fun _ => false) (fun _ _ _ => True)).ArrAt w cfg0.N G) :
    G = (dat0 (C1 m) c).arrAt w cfg0.N :=
  ((dat0 (C1 m) c).toR_arrAt_iff w cfg0.N G).mp h

/-- The second region's arrays end as its exact data say: the output's one write-back follows the last point, after which
every column is the result's. -/
theorem exact1 (c : Dev nD) (w : Fin cfg1.W) (G) (h : ((dat1 (C3 m) c).toRRel part1 (Rl1 (C3 m) c)).ArrAt w cfg1.N G) :
    G = (dat1 (C3 m) c).arrAt w cfg1.N := by
  by_cases hw : w = 8
  · subst hw
    obtain ⟨X, hX, hG⟩ := h.exists_exact
    refine hG (dat1 (C3 m) c).after fun u hu hf => ?_
    have hu' : u.val % 24 = 23 := (flush1_8 u).mp hf
    have hlt : u.val < 24 := N_1 ▸ u.isLt
    have hR : Rl1 (C3 m) c 8 u (X u) := (dat1 (C3 m) c).toRRel_leaves (by decide) (hX u hu hf)
    rw [after1_8]
    refine (funext fun y => hR y ?_).symm
    have t : (y 1).val < 4096 := (y 1).isLt
    omega
  · exact (((dat1 (C3 m) c).toR.override_arrAt (by
      have : part1 w = false := by simp only [part1, hw, decide_false]
      simp only [this]) cfg1.N G).trans ((dat1 (C3 m) c).toR_arrAt_iff w cfg1.N G)).mp h

/-- The second region's scoped buffers are its scratch before the first point. -/
theorem enter1 (c : Dev nD) : (Pipeline.scopedRest spec1 c : sProp 𝕄) ⊢ scratch (C3 m) c 0 := by
  rw [scopedRest1_eq]
  unfold scratch
  simp only [owns_whole]
  iintro ⟨H0, H1, H2, H3, H4, H5, ⟨%kb, Hkb⟩, ⟨%qa, Hqa⟩, ⟨%qb, Hqb⟩⟩
  isplitl [H0 H1 H2 H3 H4 H5]
  · isplitl [H0]; · iexact H0
    isplitl [H1]; · iexact H1
    isplitl [H2]; · iexact H2
    isplitl [H3]; · iexact H3
    isplitl [H4]; · iexact H4
    iexact H5
  iexists kb; iexists qa; iexists qb
  isplitr
  · ipureintro
    exact ⟨fun y h => absurd h (by omega), fun h => absurd h (by omega), fun h => absurd h (by omega), fun h => absurd h (by omega)⟩
  isplitl [Hkb]; · iexact Hkb
  isplitl [Hqa]; · iexact Hqa
  iexact Hqb

/-- And its scratch after the last point is its scoped buffers. -/
theorem leave1 (c : Dev nD) (n : ℕ) : scratch (C3 m) c n ⊢ (Pipeline.scopedRest spec1 c : sProp 𝕄) := by
  rw [scopedRest1_eq]
  unfold scratch
  simp only [owns_whole]
  iintro ⟨⟨H0, H1, H2, H3, H4, H5⟩, ⟨%kb, %qa, %qb, -, Hkb, Hqa, Hqb⟩⟩
  isplitl [H0]; · iexact H0
  isplitl [H1]; · iexact H1
  isplitl [H2]; · iexact H2
  isplitl [H3]; · iexact H3
  isplitl [H4]; · iexact H4
  isplitl [H5]; · iexact H5
  isplitl [Hkb]; · iexists kb; iexact Hkb
  isplitl [Hqa]; · iexists qa; iexact Hqa
  iexists qb; iexact Hqb

/-- A region's own semaphores, beside its windows': none. -/
theorem noSems (p : Fin 2) : Pipeline.OwnSemFacts (pcfgs (F := F) p).spec (fun k : Fin 0 => k.elim0) :=
  ⟨fun i => i.elim0, fun i => i.elim0, fun i => i.elim0⟩

end Cert.KernelIdeal.Crf

end
-- ==== Proof.Kern.Run.lean ====
module

public import proofs.«01_k».proof.Proof.Kern.Chain
public import Idealize.ShloMosaic.Lib.StableHlo.RunHlo

/-! The run of the program: it terminates, its arguments are kept, its semaphores end at zero, and its result is the last of the contents between items. -/

@[expose] public section

set_option maxRecDepth 16384

noncomputable section

namespace Cert.KernelIdeal.Crf

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev noLevels : GSem nD τ sig → Finset Unit := fun _ => ∅
abbrev level0 : GSem nD τ sig → Unit → ℕ := fun _ _ => 0

/-- What rides along beside the buffers: nothing is owed. -/
abbrev settled (c : Dev nD) : sProp 𝕄 := iprop(∃ W, owes (c.tc : Thread nD τ) (0 : CellTallies nD τ sig Unit) W)

abbrev rdats := Cert.ExactRegion.rel (pcfgs (F := F)) tables (dats m) inPart (known m)

theorem enter0 (c : Dev nD) (t) : (Pipeline.scopedRest spec0 c : sProp 𝕄) ⊢ (dat0 (C1 m) c).Φ t := by
  dsimp only [dat0]
  exact .rfl
theorem leave0 (c : Dev nD) (t) : (dat0 (C1 m) c).Φ t ⊢ (Pipeline.scopedRest spec0 c : sProp 𝕄) := by
  dsimp only [dat0]
  exact .rfl

/-- The region of the spatial Gaussian as a segment. -/
def region0 : Pipeline.RDat.RegionSeg (pcfgs (F := F)) tables (rdats m) () defs₀ Variants.none noLevels level0 0 :=
  Cert.ExactRegion.seg (pcfgs (F := F)) tables (dats m) inPart (known m) () defs₀ Variants.none noLevels level0 0
    (Pipeline.ucRefs τ sig) (Pipeline.arrRefs_sub_ucRefs spec0 (by decide)) (fun k => k.elim0) (noSems 0) launch0.toP rfl
    (fun c => obligation0' m c) (fun _ _ => rfl) (fun _ => rfl) (fun c => (dats m 0 c).share_full fun _ => rfl)
    (fun c => enter0 m c 0) (fun c => leave0 m c _)
    (fun c w G h => exact0 m c w G h) (V1 m) (fun _ _ => rfl)

/-- The region of the iterations as a segment. -/
def region1 : Pipeline.RDat.RegionSeg (pcfgs (F := F)) tables (rdats m) () defs₀ Variants.none noLevels level0 1 :=
  Cert.ExactRegion.seg (pcfgs (F := F)) tables (dats m) inPart (known m) () defs₀ Variants.none noLevels level0 1
    (Pipeline.ucRefs τ sig) (Pipeline.arrRefs_sub_ucRefs spec1 (by decide)) (fun k => k.elim0) (noSems 1) launch1.toP rfl
    (fun c => obligation1 (C3 m) c) (fun _ _ => rfl) (fun _ => rfl) (fun c => (dats m 1 c).share_full fun _ => rfl)
    (fun c => enter1 m c) (fun c => leave1 m c _)
    (fun c w G h => exact1 m c w G h) (V3 m) (fun _ _ => rfl)

def host0 : Pipeline.HostSeg (Ix := Unit) (Name := ℕ) (U := UR sig nD τ) (Lvl := ℕ) (pcfgs (F := F)) defs₀ Variants.none noLevels level0 :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_new) op h) (V0 m) settled
def host1 : Pipeline.HostSeg (Ix := Unit) (Name := ℕ) (U := UR sig nD τ) (Lvl := ℕ) (pcfgs (F := F)) defs₀ Variants.none noLevels level0 :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_new) op h) (V2 m) settled
def host2 : Pipeline.HostSeg (Ix := Unit) (Name := ℕ) (U := UR sig nD τ) (Lvl := ℕ) (pcfgs (F := F)) defs₀ Variants.none noLevels level0 :=
  Pipeline.HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_new) op h) (V4 m) settled

/-- The program's items in order. -/
abbrev items (_ : Dev nD) : List (Pipeline.RDat.Seg (pcfgs (F := F)) tables (rdats m) () defs₀ Variants.none noLevels level0) :=
  [.host (host0 m), .region (region0 m), .host (host1 m), .region (region1 m), .host (host2 m)]

theorem allScoped : ∀ sm : SemLoc sig, sm.isScoped .tc = true := by decide

abbrev ghost0 : UR sig nD τ := initOf (Pipeline.cells (Pipeline.pin (pcfgs (F := F)) tables) cellOf_inj) (Pipeline.launchToks (Pipeline.pin (pcfgs (F := F)) tables) cellOf_inj)

set_option backward.isDefEq.respectTransparency.types false in
/-- Every run of the program from memory `m` ends, with each unscoped buffer at its last contents and every semaphore at zero. -/
theorem run (ρ : Dev nD → PrngReg) :
    θ_run defs (onTc (τ := τ) (main (F := F))) ⟨m, fun _ => 0, ρ⟩
      (fun r => (∀ c : Dev nD, ∀ b ∈ Pipeline.ucRefs τ sig, r.2.mem (c, b) = V5 m c b) ∧ r.2.sem = fun _ => 0) := by
  refine Pipeline.RDat.θ_run_regions_kit_dev_sems (pcfgs (F := F)) tables (rdats m) () cellOf_inj emb₁ defs₀ Variants.none noLevels level0 m ρ main
    (items m)
    (fun c Q => by
      rewrite [main_chain c, Pipeline.RDat.Seg.run_eq_chain,
        show (items m c).map Pipeline.RDat.Seg.prog = [
          StableHlo.seq hostOps0,
          Prog.lift (.customCall (Pipeline.entry 0) ()),
          StableHlo.seq hostOps1,
          Prog.lift (.customCall (Pipeline.entry 1) ()),
          StableHlo.seq hostOps2 ] from rfl]
      dsimp (config := { failIfUnchanged := false }) only
      exact .rfl)
    (fun c => by
      simp only [items, Pipeline.RDat.Seg.pipes_host, Pipeline.RDat.Seg.pipes_region, Pipeline.RDat.Seg.pipes_nil]; decide)
    (O₀ := 0) (hL := fun _ _ => rfl) (G := fun _ => iprop(emp)) (u₀ := ghost0 (F := F))
    (hu₀ := by
      iintro Hu; imodintro
      isplitl [Hu]
      · iapply (show (ownU _ : sProp 𝕄) ⊢ BI.own (emb₁ (ghost0 (F := F))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c.tc : Thread nD τ) (Pipeline.ucRefs τ sig) (V0 m c) ∗ settled c))
    (Tₙ := fun c => StableHlo.held (c.tc : Thread nD τ) (Pipeline.ucRefs τ sig) (V5 m c))
    (hch := fun c => ⟨.rfl, .rfl, .rfl, .rfl, .rfl, .rfl⟩)
    (hinit := by
      refine Pipeline.initEach noLevels level0 fun c => ?_
      rw [show unscopedBufs c (fun b => m ((c.tc : Thread nD τ).loc b)) = StableHlo.held (c.tc : Thread nD τ) (Pipeline.ucRefs τ sig) (V0 m c)
          from Pipeline.unscopedBufs_held (Ix := Unit) (Name := ℕ) (U := UR sig nD τ) (Lvl := ℕ) c (V0 m c)]
      iintro ⟨⟨Hh, -, HO, -, -, -⟩, -⟩
      imodintro
      isplitl [Hh]; · iexact Hh
      iexists ∅; iexact HO)
    (QY := fun c s => ∀ b ∈ Pipeline.ucRefs τ sig, s.mem (c, b) = V5 m c b)
    (hfin := fun c s' => by
      unfold StableHlo.held
      iintro ⟨Hh, HSI⟩
      ihave Hr := (pointsTo_read_all (Pipeline.ucRefs τ sig) (fun b => ((c.tc : Thread nD τ).1, b)) (V5 m c) s') $$ [Hh HSI]
      · isplitl [Hh] <;> iassumption
      imodintro; iexact Hr)
    (hQ := fun _ h hz => ⟨h, funext fun g => hz g (.inr (allScoped g.2))⟩)

theorem unscoped (b : Ref sig .tc) (h : b.isScoped = false) : Proc.devRef (τ := τ) .tc b ∈ Pipeline.ucRefs τ sig :=
  Pipeline.devRef_mem_ucRefs h

/-- The run in the form of the frame claim, with the result beside the arguments. -/
theorem run_args (ρ : Dev nD → PrngReg) :
    θ_run defs (onTc (τ := τ) (main (F := F))) ⟨m, fun _ => 0, ρ⟩
      (fun r => (∀ c : Dev nD, r.2.mem ((c : Thread nD τ).loc main_v0) = V5 m c main_v0
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)) ∧ r.2.sem = fun _ => 0) :=
  θ_run_mono (run m ρ) (fun r h => ⟨fun c => ⟨h.1 c _ (unscoped main_v0 rfl),
    (h.1 c _ (unscoped main_arg0 rfl)).trans (V5_arg m c main_arg0 (by decide) (by decide) (by decide) (by decide) (by decide)),
    (h.1 c _ (unscoped main_arg1 rfl)).trans (V5_arg m c main_arg1 (by decide) (by decide) (by decide) (by decide) (by decide)),
    (h.1 c _ (unscoped main_arg2 rfl)).trans (V5_arg m c main_arg2 (by decide) (by decide) (by decide) (by decide) (by decide)),
    (h.1 c _ (unscoped main_arg3 rfl)).trans (V5_arg m c main_arg3 (by decide) (by decide) (by decide) (by decide) (by decide))⟩, h.2⟩)

end Cert.KernelIdeal.Crf

end
-- ==== Proof.Kern.Same.lean ====
module

public import proofs.«01_k».proof.Kernel
public import proofs.«01_k».proof.Proof.Kern.Run

/-! The kernel as traced and the kernel idealized are one program over any float operations, so the frame of one is the frame of the other. -/

@[expose] public section

set_option maxRecDepth 16384

noncomputable section

namespace Cert.Crf

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Cert.Kernel.Facts] [Cert.KernelIdeal.Facts]

set_option maxHeartbeats 1000000 in
/-- The two programs' kernels, on the same blocks. -/
theorem bodies_same : Cert.Kernel.defs₀ (F := F) = Cert.KernelIdeal.defs₀ (F := F) := by
  unfold Cert.Kernel.defs₀ Cert.KernelIdeal.defs₀
  refine congrArg (Defs.onTc (nD := Cert.KernelIdeal.nD) (τ := Cert.KernelIdeal.τ) (sig := Cert.KernelIdeal.sig) (Λ := Cert.KernelIdeal.Λ₀)) ?_
  funext l a
  match l with
  | 0 => rfl
  | 1 => rfl
  | ⟨n + 2, h⟩ => exact absurd h (Nat.not_lt.2 (Nat.le_add_left _ _))

set_option maxHeartbeats 1000000 in
/-- The two programs' pipelines around them. -/
theorem defs_same : Cert.Kernel.defs (F := F) = Cert.KernelIdeal.defs (F := F) := by
  unfold Cert.Kernel.defs Cert.KernelIdeal.defs
  exact congrArg (Pipeline.defs (nD := Cert.KernelIdeal.nD) (τ := Cert.KernelIdeal.τ) (Cert.KernelIdeal.pcfgs (F := F))) bodies_same

set_option maxHeartbeats 8000000 in
/-- The two programs' host code. -/
theorem main_same : Cert.Kernel.main (F := F) = Cert.KernelIdeal.main (F := F) := funext fun c => by
  exact (rfl : Cert.Kernel.main (F := F) c = Cert.KernelIdeal.main (F := F) c)

set_option maxHeartbeats 1000000 in
/-- So the program as traced ends with its arguments kept and its semaphores at zero. -/
theorem kept (m : (ℓ : Loc Cert.Kernel.nD Cert.Kernel.τ Cert.Kernel.sig) → Buf (Elt F) ℓ) (ρ : Dev Cert.Kernel.nD → PrngReg) :
    θ_run Cert.Kernel.defs (onTc (τ := Cert.Kernel.τ) (Cert.Kernel.main (F := F))) ⟨m, fun _ => 0, ρ⟩
      (fun r => (∀ c : Dev Cert.Kernel.nD,
        r.2.mem ((c.tc : Thread Cert.Kernel.nD Cert.Kernel.τ).loc Cert.Kernel.main_arg0) = m ((c.tc : Thread Cert.Kernel.nD Cert.Kernel.τ).loc Cert.Kernel.main_arg0)
        ∧ r.2.mem ((c.tc : Thread Cert.Kernel.nD Cert.Kernel.τ).loc Cert.Kernel.main_arg1) = m ((c.tc : Thread Cert.Kernel.nD Cert.Kernel.τ).loc Cert.Kernel.main_arg1)
        ∧ r.2.mem ((c.tc : Thread Cert.Kernel.nD Cert.Kernel.τ).loc Cert.Kernel.main_arg2) = m ((c.tc : Thread Cert.Kernel.nD Cert.Kernel.τ).loc Cert.Kernel.main_arg2)
        ∧ r.2.mem ((c.tc : Thread Cert.Kernel.nD Cert.Kernel.τ).loc Cert.Kernel.main_arg3) = m ((c.tc : Thread Cert.Kernel.nD Cert.Kernel.τ).loc Cert.Kernel.main_arg3))
        ∧ r.2.sem = fun _ => 0) := by
  have h := Cert.KernelIdeal.Crf.run_args (F := F) m ρ
  rw [← defs_same, ← main_same] at h
  exact θ_run_mono h fun r hr => ⟨fun c => (hr.1 c).2, hr.2⟩

end Cert.Crf

end
-- ==== Proof.Math.Arrays.lean ====
module

public import proofs.«01_k».proof.Proof.Kern.Chain
public import Idealize.ShloMosaic.Lib.StableHlo.RunRead
public import Idealize.ShloMosaic.Lib.Pipeline.ValueKit

/-! What the two regions leave in their output arrays, and what the program returns. -/

@[expose] public section

set_option maxRecDepth 16384
set_option maxHeartbeats 2000000

noncomputable section

namespace Cert.KernelIdeal.Crf

open Cert.KernelIdeal Cert.KernelIdeal.Gen
open Idealize.ShloMosaic Idealize.ShloMosaic.TcCoe Idealize.ShloMosaic.StableHlo
open Idealize.ShloMosaic.Pipeline (Dat Cfg Window)

variable {F : FTy → Type} [FloatOps F]

variable (V : Contents F)

/-- The second region's output array ends at its result. -/
theorem result_array (c : Dev nD) : (dat1 V c).arrAt 8 cfg1.N = (operands V c).result := by
  refine (dat1 V c).arrAt_eq_of_after_last 8 (pt 23 (by decide)) (by decide +kernel) _ fun j => ?_
  rw [after1_8]
  rfl

/-- The four Gaussian blocks side by side. -/
def gaussAll (c : Dev nD) : Vec F S3072x4096 .bf16 := fun y =>
  gauss V c ⟨(y 1).val / 1024, by have h : (y 1).val < 4096 := (y 1).isLt; rw [show cfg0.N = 4 from N_0]; omega⟩
    (ValueIdx.ix2 ⟨(y 0).val, (y 0).isLt⟩ ⟨(y 1).val % 1024, Nat.mod_lt _ (by decide)⟩)

/-- The first region's block at point `t` starts at column `1024 t`. -/
theorem index0_4 : ∀ t : Fin cfg0.N, (cfg0.win 4).index t = ![0, t.val] := by decide +kernel

/-- The first region's output array ends at the four Gaussian blocks. -/
theorem gauss_array (c : Dev nD) : (dat0 V c).arrAt 4 cfg0.N = gaussAll V c := by
  refine (dat0 V c).arrAt_eq_of_covers 4 _ (by decide +kernel) fun t hf y => ?_
  rw [after0_4]
  have h0 : ((((cfg0.win 4).blk t).view.emb y) 0 : ℕ) = (y 0).val := by
    refine (Window.rect_emb_val _ t y 0 rfl).trans ?_
    rw [index0_4]
    show 0 * 3072 + _ = _
    omega
  have h1 : ((((cfg0.win 4).blk t).view.emb y) 1 : ℕ) = t.val * 1024 + (y 1).val := by
    refine (Window.rect_emb_val _ t y 1 rfl).trans ?_
    rw [index0_4]
    rfl
  have hy : (y 1).val < 1024 := (y 1).isLt
  show gauss V c t y = gaussAll V c (((cfg0.win 4).blk t).view.emb y)
  unfold gaussAll
  have ht : (⟨((((cfg0.win 4).blk t).view.emb y) 1 : ℕ) / 1024, by
      have h4 : t.val < 4 := lt_of_lt_of_eq t.isLt N_0
      rw [h1, show cfg0.N = 4 from N_0]; omega⟩ : Fin cfg0.N) = t := Fin.ext (by show _ / _ = _; rw [h1]; omega)
  refine congr (congrArg (gauss V c) ht.symm) ?_
  funext a
  apply Fin.ext
  fin_cases a
  · exact h0.symm
  · show (y 1).val = ((((cfg0.win 4).blk t).view.emb y) 1 : ℕ) % 1024
    rw [h1]; omega

variable (m : (ℓ : Loc nD τ sig) → Buf (Elt F) ℓ)

theorem V4_v40 (c : Dev nD) : (V4 m c main_call0_v40 : Vec F S21x4096 .f32) = (operands (C3 m) c).result :=
  (Pipeline.afterRegion_arr (dat1 (C3 m) c) (V3 m c) launch1.win.arr_inj 8).trans (result_array (C3 m) c)

/-- The program returns the second region's result, transposed and reshaped. -/
theorem V5_v0 (c : Dev nD) : (V5 m c main_v0 : Vec F S64x64x21 .f32)
    = shapeCast S64x64x21 (transpose S4096x21 [1, 0] (operands (C3 m) c).result transposes_S21x4096_S4096x21_1_0) shapeCasts_S4096x21_S64x64x21 := by
  unfold V5
  simp only [hostOps2]
  after_reads_simp
  rw [V4_v40]
  try rfl

/-- The second region finds the Gaussian blocks the first one wrote. -/
theorem V3_v37 (c : Dev nD) : (V3 m c main_call0_v37 : Vec F S3072x4096 .bf16) = gaussAll (C1 m) c :=
  (after1_of (V2 m c) main_call0_v37 (by decide)).trans
    ((Pipeline.afterRegion_arr (dat0 (C1 m) c) (V1 m c) launch0.win.arr_inj 4).trans (gauss_array (C1 m) c))

/-- What neither the first region nor the host after it writes, the second region finds as the first did. -/
theorem V3_of (c : Dev nD) (r : Ref sig .tc) (h1 : r ∉ written1) (k0 : ∀ w, Pipeline.arrRef spec0 w = r → (spec0 w).isOut = false) :
    V3 m c r = V1 m c r :=
  (after1_of _ r h1).trans (V2_of m c r k0)

theorem V3_v38 (c : Dev nD) : (V3 m c main_call0_v38 : Vec F S4096x1 .f32)
    = broadcastInDim S4096x1 ![0] bcast_S4096_S4096x1_0 (V1 m c main_call0_v28 : Vec F S4096 .f32) := by
  rw [← V2_of m c main_call0_v28 (by decide)]
  unfold V3
  simp only [hostOps1]
  after_reads_simp
  all_goals rfl

theorem V3_v39 (c : Dev nD) : (V3 m c main_call0_v39 : Vec F S1x4096 .f32)
    = broadcastInDim S1x4096 ![1] bcast_S4096_S1x4096_1 (V1 m c main_call0_v28 : Vec F S4096 .f32) := by
  rw [← V2_of m c main_call0_v28 (by decide)]
  unfold V3
  simp only [hostOps1]
  after_reads_simp
  all_goals rfl

end Cert.KernelIdeal.Crf

end
-- ==== Proof.Math.Host.lean ====
module

public import proofs.«01_k».proof.Proof.Kern.Chain
public import Idealize.ShloMosaic.Lib.StableHlo.RunRead

/-! What the kernel's host operations leave for its two regions, as terms of the arguments. -/

@[expose] public section

set_option maxRecDepth 16384
set_option maxHeartbeats 2000000

noncomputable section

namespace Cert.KernelIdeal.Crf

open Cert.KernelIdeal Cert.KernelIdeal.Gen
open Idealize.ShloMosaic Idealize.ShloMosaic.TcCoe Idealize.ShloMosaic.StableHlo

variable {F : FTy → Type} [FloatOps F]

/-- The positions of the pixels, column then row. -/
def positions : FVec F S4096x2 .f32 :=
  shapeCast _ (concatenate S64x64x2 2 [⟨S64x64x1, (broadcastInDim S64x64x1 ![0, 1] bcast_S64x64_S64x64x1_0_1 (broadcastInDim S64x64 ![1] bcast_S64_S64x64_1 (sitofp .f32 (iotaInDim S64 32 0))))⟩,
    ⟨S64x64x1, (broadcastInDim S64x64x1 ![0, 1] bcast_S64x64_S64x64x1_0_1 (broadcastInDim S64x64 ![0] bcast_S64_S64x64_0 (sitofp .f32 (iotaInDim S64 32 0))))⟩] concatenates_S64x64x1_S64x64x1_S64x64x2_d2) shapeCasts_S64x64x2_S4096x2

/-- The bilateral features: the scaled positions, then the scaled colours. -/
def feats (x : FVec F S64x64x3 .f32) : FVec F S4096x5 .f32 :=
  concatenate S4096x5 1 [⟨S4096x2, (Host.divf positions (broadcastInDim S4096x2 ![] bcast_S_S4096x2 (constant S_ .f32 0x42A00000#32)))⟩,
    ⟨S4096x3, (Host.divf (shapeCast _ x shapeCasts_S64x64x3_S4096x3) (broadcastInDim S4096x3 ![] bcast_S_S4096x3 (constant S_ .f32 0x41500000#32)))⟩] concatenates_S4096x2_S4096x3_S4096x5_d1

/-- The spatial features: the scaled positions. -/
def spats : FVec F S4096x2 .f32 := Host.divf positions (broadcastInDim S4096x2 ![] bcast_S_S4096x2 (constant S_ .f32 0x40400000#32))

/-- Three columns of zeros. -/
def zeros3 : FVec F S4096x3 .f32 := broadcastInDim S4096x3 ![] bcast_S_S4096x3 (constant S_ .f32 0x00000000#32)

/-- The bilateral features in the first five of eight columns. -/
def featsPad (x : FVec F S64x64x3 .f32) : FVec F S4096x8 .f32 :=
  concatenate S4096x8 1 [⟨S4096x5, feats x⟩, ⟨S4096x3, zeros3⟩] concatenates_S4096x5_S4096x3_S4096x8_d1

/-- The spatial features in the sixth and seventh of eight columns. -/
def spatsPad : FVec F S4096x8 .f32 :=
  concatenate S4096x8 1 [⟨S4096x5, broadcastInDim S4096x5 ![] bcast_S_S4096x5 (constant S_ .f32 0x00000000#32)⟩, ⟨S4096x2, spats⟩,
    ⟨S4096x1, extractStridedSlice S4096x1 ![0, 0] zeros3 slices_S4096x3_S4096x1_0_0⟩] concatenates_S4096x5_S4096x2_S4096x1_S4096x8_d1

/-- Both, transposed. -/
def bothT (x : FVec F S64x64x3 .f32) : FVec F S8x4096 .f32 :=
  transpose S8x4096 [1, 0] (addf (featsPad x) spatsPad) transposes_S4096x8_S8x4096_1_0

/-- Minus half the squared norms of the bilateral features. -/
def halfB (x : FVec F S64x64x3 .f32) : FVec F S4096 .f32 :=
  mulf (broadcastInDim S4096 ![] bcast_S_S4096 (constant S_ .f32 0xBF000000#32)) (Host.reduceAdd (mulf (feats x) (feats x)) (constant S_ .f32 0x00000000#32) reducesTo_S4096x5_S4096_d1 h_S_)

/-- Minus half the squared norms of the spatial features. -/
def halfS : FVec F S4096 .f32 :=
  mulf (broadcastInDim S4096 ![] bcast_S_S4096 (constant S_ .f32 0xBF000000#32)) (Host.reduceAdd (mulf spats spats) (constant S_ .f32 0x00000000#32) reducesTo_S4096x2_S4096_d1 h_S_)

/-- Two columns put side by side, by name: a rewrite then reaches its operands. -/
def catPos (a b : FVec F S64x64x1 .f32) : FVec F S64x64x2 .f32 := concatenate S64x64x2 2 [⟨S64x64x1, a⟩, ⟨S64x64x1, b⟩] concatenates_S64x64x1_S64x64x1_S64x64x2_d2
/-- Positions and colours put side by side, by name. -/
def catFeat (a : FVec F S4096x2 .f32) (b : FVec F S4096x3 .f32) : FVec F S4096x5 .f32 := concatenate S4096x5 1 [⟨S4096x2, a⟩, ⟨S4096x3, b⟩] concatenates_S4096x2_S4096x3_S4096x5_d1
/-- Features and zeros put side by side, by name. -/
def catPad (a : FVec F S4096x5 .f32) (b : FVec F S4096x3 .f32) : FVec F S4096x8 .f32 := concatenate S4096x8 1 [⟨S4096x5, a⟩, ⟨S4096x3, b⟩] concatenates_S4096x5_S4096x3_S4096x8_d1
theorem catPos_eq : (fun a b : (⟨S64x64x1, .f32⟩ : BufTy).Contents (Elt F) => (concatenate S64x64x2 2 [⟨S64x64x1, a⟩, ⟨S64x64x1, b⟩] concatenates_S64x64x1_S64x64x1_S64x64x2_d2 : (⟨S64x64x2, .f32⟩ : BufTy).Contents (Elt F))) = catPos := rfl
theorem catFeat_eq : (fun (a : (⟨S4096x2, .f32⟩ : BufTy).Contents (Elt F)) (b : (⟨S4096x3, .f32⟩ : BufTy).Contents (Elt F)) => (concatenate S4096x5 1 [⟨S4096x2, a⟩, ⟨S4096x3, b⟩] concatenates_S4096x2_S4096x3_S4096x5_d1 : (⟨S4096x5, .f32⟩ : BufTy).Contents (Elt F))) = catFeat := rfl
theorem catPad_eq : (fun (a : (⟨S4096x5, .f32⟩ : BufTy).Contents (Elt F)) (b : (⟨S4096x3, .f32⟩ : BufTy).Contents (Elt F)) => (concatenate S4096x8 1 [⟨S4096x5, a⟩, ⟨S4096x3, b⟩] concatenates_S4096x5_S4096x3_S4096x8_d1 : (⟨S4096x8, .f32⟩ : BufTy).Contents (Elt F))) = catPad := rfl

variable (m : (ℓ : Loc nD τ sig) → Buf (Elt F) ℓ)

theorem V1_v1 (c : Dev nD) : (V1 m c main_call0_v1 : Vec F S21x4096 .f32)
    = transpose S21x4096 [1, 0] (shapeCast S4096x21 (m ((c : Thread nD τ).loc main_arg0) : Vec F S64x64x21 .f32) shapeCasts_S64x64x21_S4096x21) transposes_S4096x21_S21x4096_1_0 := by
  unfold V1
  simp only [hostOps0, catPos_eq, catFeat_eq, catPad_eq]
  after_reads_simp
  all_goals rfl

theorem V1_v20 (c : Dev nD) : (V1 m c main_call0_v20 : Vec F S4096x8 .f32) = featsPad (m ((c : Thread nD τ).loc main_arg1)) := by
  unfold V1
  simp only [hostOps0, catPos_eq, catFeat_eq, catPad_eq]
  after_reads_simp
  all_goals rfl

theorem V1_v22 (c : Dev nD) : (V1 m c main_call0_v22 : Vec F S4096x8 .f32) = spatsPad := by
  unfold V1
  simp only [hostOps0, catPos_eq, catFeat_eq, catPad_eq]
  after_reads_simp
  all_goals rfl

theorem V1_v24 (c : Dev nD) : (V1 m c main_call0_v24 : Vec F S8x4096 .f32) = bothT (m ((c : Thread nD τ).loc main_arg1)) := by
  unfold V1
  simp only [hostOps0, catPos_eq, catFeat_eq, catPad_eq]
  after_reads_simp
  all_goals rfl

theorem V1_v28 (c : Dev nD) : (V1 m c main_call0_v28 : Vec F S4096 .f32) = halfB (m ((c : Thread nD τ).loc main_arg1)) := by
  unfold V1
  simp only [hostOps0, catPos_eq, catFeat_eq, catPad_eq]
  after_reads_simp
  all_goals rfl

theorem V1_v35 (c : Dev nD) : (V1 m c main_call0_v35 : Vec F S4096x1 .f32) = broadcastInDim S4096x1 ![0] bcast_S4096_S4096x1_0 halfS := by
  unfold V1
  simp only [hostOps0, catPos_eq, catFeat_eq, catPad_eq]
  after_reads_simp
  all_goals rfl

theorem V1_v36 (c : Dev nD) : (V1 m c main_call0_v36 : Vec F S1x4096 .f32) = broadcastInDim S1x4096 ![1] bcast_S4096_S1x4096_1 halfS := by
  unfold V1
  simp only [hostOps0, catPos_eq, catFeat_eq, catPad_eq]
  after_reads_simp
  all_goals rfl

theorem V1_v33 (c : Dev nD) : (V1 m c main_call0_v33 : Vec F S1 .f32) = shapeCast S1 (m ((c : Thread nD τ).loc main_arg2) : Vec F S_ .f32) shapeCasts_S_S1 := by
  unfold V1
  simp only [hostOps0, catPos_eq, catFeat_eq, catPad_eq]
  after_reads_simp
  all_goals rfl

theorem V1_v34 (c : Dev nD) : (V1 m c main_call0_v34 : Vec F S1 .f32) = shapeCast S1 (m ((c : Thread nD τ).loc main_arg3) : Vec F S_ .f32) shapeCasts_S_S1 := by
  unfold V1
  simp only [hostOps0, catPos_eq, catFeat_eq, catPad_eq]
  after_reads_simp
  all_goals rfl

end Cert.KernelIdeal.Crf

end
-- ==== Proof.Math.Affinity.lean ====
module

public import Idealize.ShloMosaic.PureOps.Ideal.Laws
public import Idealize.ShloMosaic.Lib.IdealHost
public import Idealize.ShloMosaic.Lib.Pointwise.Sums

/-! The Gaussian affinity of two pixels, as a number: the exponential of the expanded square the kernel takes, equal for real
features to the exponential of the clamped squared distance that the reference takes. -/

@[expose] public section

noncomputable section

namespace Cert.Crf

open Idealize.ShloMosaic

/-- Minus one half, as both programs spell it. -/
def negHalf : EReal := Ideal.ofBits .f32 0xBF000000#32

theorem negHalf_eq : negHalf = ((-(1 / 2 : ℝ) : ℝ) : EReal) := by
  unfold negHalf
  simp [Ideal.ofBits, Ideal.ieee, -EReal.coe_mul, -EReal.coe_neg]; norm_num

theorem two_eq : Ideal.ofBits .f32 0x40000000#32 = ((2 : ℝ) : EReal) := by
  simp [Ideal.ofBits, Ideal.ieee, -EReal.coe_mul]; norm_num

/-- The inner product of two feature vectors. -/
def inner {n : ℕ} (f g : Fin n → EReal) : EReal := ∑ d, f d * g d

theorem inner_comm {n : ℕ} (f g : Fin n → EReal) : inner f g = inner g f :=
  Finset.sum_congr rfl fun _ _ => mul_comm _ _

/-- The affinity of two feature vectors: the exponential of minus half their squared distance, at most one. -/
def aff {n : ℕ} (f g : Fin n → EReal) : EReal :=
  min (Ideal.exp (negHalf * inner f f + negHalf * inner g g + inner f g)) 1

/-- The affinity is symmetric. -/
theorem aff_comm {n : ℕ} (f g : Fin n → EReal) : aff f g = aff g f := by
  unfold aff
  rw [inner_comm f g, add_comm (negHalf * inner f f)]

/-- A sum of real products is the real sum. -/
theorem inner_coe {n : ℕ} (r s : Fin n → ℝ) : inner (fun d => (r d : EReal)) (fun d => (s d : EReal)) = ((∑ d, r d * s d : ℝ) : EReal) := by
  unfold inner
  induction n with
  | zero => simp
  | succ n ih =>
    rw [Fin.sum_univ_succ, Fin.sum_univ_succ, EReal.coe_add, EReal.coe_mul]
    exact congrArg _ (ih (fun d => r d.succ) (fun d => s d.succ))

/-- For real features the affinity is the exponential of minus half the squared distance, clamped at zero. -/
theorem exp_dist {n : ℕ} {f g : Fin n → EReal} (hf : ∀ d, ∃ r : ℝ, f d = r) (hg : ∀ d, ∃ r : ℝ, g d = r) :
    Ideal.exp (negHalf * max (inner f f + inner g g - Ideal.ofBits .f32 0x40000000#32 * inner f g) 0) = aff f g := by
  choose r hr using hf
  choose s hs using hg
  obtain rfl : f = fun d => (r d : EReal) := funext hr
  obtain rfl : g = fun d => (s d : EReal) := funext hs
  unfold aff
  rw [inner_coe, inner_coe, inner_coe, negHalf_eq, two_eq, ← EReal.coe_mul, ← EReal.coe_mul, ← EReal.coe_mul, ← EReal.coe_add,
    ← EReal.coe_add, ← EReal.coe_add, ← EReal.coe_sub, show (0 : EReal) = ((0 : ℝ) : EReal) from rfl, show (1 : EReal) = ((1 : ℝ) : EReal) from rfl,
    ← EReal.coe_strictMono.monotone.map_max, ← EReal.coe_mul, Ideal.exp_coe, Ideal.exp_coe, ← EReal.coe_strictMono.monotone.map_min]
  congr 1
  generalize ∑ d, r d * r d = a
  generalize ∑ d, s d * s d = b
  generalize ∑ d, r d * s d = c
  rcases le_total (a + b - 2 * c) 0 with h | h
  · rw [max_eq_right h, mul_zero, Real.exp_zero, min_eq_right (Real.one_le_exp (by linarith))]
  · rw [max_eq_left h, min_eq_left (Real.exp_le_one_iff.mpr (by linarith))]
    congr 1; ring

/-- Padding: a product with the first five of eight features, the others zero, sees only those five. -/
theorem inner_pad5 (f g : Fin 5 → EReal) (h : Fin 8 → EReal) (u v : Fin 8 → EReal)
    (hu : ∀ d : Fin 8, u d = if hd : d.val < 5 then f ⟨d.val, hd⟩ else 0)
    (hv : ∀ d : Fin 8, v d = (if hd : d.val < 5 then g ⟨d.val, hd⟩ else 0) + h d) (hh : ∀ d : Fin 8, d.val < 5 → h d = 0) :
    inner u v = inner f g := by
  unfold inner
  rw [Fin.sum_univ_two_halves 5 3 rfl]
  have h2 : (∑ k : Fin 3, u ⟨5 + k.val, by have := k.isLt; omega⟩ * v ⟨5 + k.val, by have := k.isLt; omega⟩) = 0 :=
    Finset.sum_eq_zero fun k _ => by rw [hu, dif_neg (by simp), zero_mul]
  rw [h2, add_zero]
  refine Finset.sum_congr rfl fun k _ => ?_
  rw [hu, hv, dif_pos (by exact k.isLt), dif_pos (by exact k.isLt), hh _ (by exact k.isLt), add_zero]

/-- Padding: a product with the sixth and seventh of eight features, the others zero, sees only those two. -/
theorem inner_pad2 (f g : Fin 2 → EReal) (h : Fin 8 → EReal) (u v : Fin 8 → EReal)
    (hu : ∀ d : Fin 8, u d = if hd : 5 ≤ d.val ∧ d.val < 7 then f ⟨d.val - 5, by omega⟩ else 0)
    (hv : ∀ d : Fin 8, v d = h d + (if hd : 5 ≤ d.val ∧ d.val < 7 then g ⟨d.val - 5, by omega⟩ else 0)) (hh : ∀ d : Fin 8, 5 ≤ d.val → h d = 0) :
    inner u v = inner f g := by
  have e : inner u v = u 5 * v 5 + u 6 * v 6 := by
    unfold inner
    rw [Fin.sum_univ_eight, hu 0, hu 1, hu 2, hu 3, hu 4, hu 7]
    simp
  rw [e, hu, hv, hu, hv, hh 5 (by decide), hh 6 (by decide), zero_add, zero_add]
  unfold inner
  rw [Fin.sum_univ_two]
  rfl

end Cert.Crf

end
-- ==== Proof.Math.Step.lean ====
module

public import proofs.«01_k».proof.Proof.Math.Affinity

/-! One round of mean-field message passing, as numbers: labels `l`, pixels `p`, two affinities, two weights. -/

@[expose] public section

noncomputable section

namespace Cert.Crf

open Idealize.ShloMosaic

/-- A label's energy exponentiated, shifted by the greatest over the labels. -/
def pots (x : Fin 21 → EReal) (l : Fin 21) : EReal :=
  Ideal.exp (x l - Finset.univ.fold max (Ideal.ofBits .f32 0xFF800000#32) x)

/-- The share of a label. -/
def share (e : Fin 21 → EReal) (l : Fin 21) : EReal := Ideal.div (e l) (∑ k, e k)

/-- A function of label and pixel. -/
abbrev Field := Fin 21 → Fin 4096 → EReal

/-- The weighted message label `l` sends to pixel `p`. -/
def msg (K S : Fin 4096 → Fin 4096 → EReal) (a b : EReal) (Q : Field) (l : Fin 21) (p : Fin 4096) : EReal :=
  a * ∑ q, K p q * Q l q + b * ∑ q, S p q * Q l q

/-- The exponentiated energies from unary energies `u` and messages `M`. -/
def energies (u M : Field) (l : Fin 21) (p : Fin 4096) : EReal :=
  pots (fun k => -u k p - ((∑ k', M k' p) - M k p)) l

/-- The start: the softmax of the negated unary energies. -/
def start (u : Field) (l : Fin 21) (p : Fin 4096) : EReal := share (pots fun k => -u k p) l

/-- The next iterate. -/
def next (K S : Fin 4096 → Fin 4096 → EReal) (a b : EReal) (u Q : Field) (l : Fin 21) (p : Fin 4096) : EReal :=
  share (fun k => energies u (msg K S a b Q) k p) l

/-- The iterates. -/
def iterate (K S : Fin 4096 → Fin 4096 → EReal) (a b : EReal) (u : Field) : ℕ → Field
  | 0 => start u
  | n + 1 => next K S a b u (iterate K S a b u n)

/-- A sum whose terms vanish outside a window of 3072 is the sum over the window. -/
theorem sum_window (s : ℕ) (hs : s + 3072 ≤ 4096) (f : Fin 4096 → EReal) (h : ∀ q : Fin 4096, (q.val < s ∨ s + 3072 ≤ q.val) → f q = 0) :
    ∑ q, f q = ∑ r : Fin 3072, f ⟨s + r.val, by have := r.isLt; omega⟩ := by
  symm
  refine Finset.sum_of_injOn (fun r : Fin 3072 => (⟨s + r.val, by have := r.isLt; omega⟩ : Fin 4096)) ?_ (fun _ _ => Finset.mem_coe.mpr (Finset.mem_univ _)) ?_ fun _ _ => rfl
  · intro x _ y _ e
    have := congrArg Fin.val e
    exact Fin.ext (by simpa using this)
  · intro q _ hq
    refine h q ?_
    by_contra hc
    refine hq ⟨⟨q.val - s, by omega⟩, Finset.mem_coe.mpr (Finset.mem_univ _), Fin.ext ?_⟩
    show s + (q.val - s) = q.val
    omega

end Cert.Crf

end
-- ==== Proof.Math.Payload.lean ====
module

public import proofs.«01_k».proof.Proof.Kern.Iterate
public import proofs.«01_k».proof.Proof.Math.Step
public import Idealize.ShloMosaic.Lib.Pointwise

/-! What the kernel's blocks hold, entry by entry, over the extended reals. -/

@[expose] public section

noncomputable section

namespace Cert.KernelIdeal.Crf

open Cert.KernelIdeal Cert.KernelIdeal.Gen Cert.Crf
open Idealize.ShloMosaic Idealize.ShloMosaic.TcCoe

/-- The start, entry by entry. -/
theorem start_apply (x : Vec Ideal S21x4096 .f32) (l : Fin 21) (p : Fin 4096) :
    k1_pay2 x (ix2 l p) = start (fun l p => x (ix2 l p)) l p := by
  pointwise [k1_pay2]
  simp only [zero_sub]
  rfl

/-- A column block divided by its column sums. -/
theorem share_apply (x : FVec Ideal S21x1024 .f32) (l : Fin 21) (p : Fin 1024) :
    k1_pay3 x (ix2 l p) = share (fun k => x (ix2 k p)) l := by
  pointwise [k1_pay3]
  rfl

/-- The same, narrowed: narrowing changes nothing here. -/
theorem share_narrow_apply (x : FVec Ideal S21x1024 .f32) (l : Fin 21) (p : Fin 1024) :
    k1_pay4 x (ix2 l p) = share (fun k => x (ix2 k p)) l := by
  pointwise [k1_pay4, k1_pay3]
  rfl

/-- Two words below the modulus are equal where their numbers are. -/
theorem select_eq {α : Type} {a b : ℕ} (ha : a < 2 ^ 32) (hb : b < 2 ^ 32) (x y : α) :
    Scalar.select (IntOp.cmpi .eq (BitVec.ofNat 32 a) (BitVec.ofNat 32 b)) x y = if a = b then x else y := by
  have e : (BitVec.ofNat 32 a = BitVec.ofNat 32 b) ↔ a = b :=
    ⟨fun h => by
      have := congrArg BitVec.toNat h
      rw [BitVec.toNat_ofNat, BitVec.toNat_ofNat, Nat.mod_eq_of_lt ha, Nat.mod_eq_of_lt hb] at this
      exact this, fun h => by rw [h]⟩
  unfold Scalar.select IntOp.cmpi
  by_cases h : a = b
  · simp [h]
  · have h' : ¬ BitVec.ofNat 32 a = BitVec.ofNat 32 b := fun k => h (e.mp k)
    rw [if_neg h, beq_eq_false_iff_ne.mpr h']
    rfl

/-- The word of a sum is the sum of the words. -/
theorem addi_ofNat (a b : ℕ) : IntOp.addi (BitVec.ofNat 32 a) (BitVec.ofNat 32 b) = BitVec.ofNat 32 (a + b) := by
  unfold IntOp.addi
  exact (BitVec.ofNat_add a b).symm

/-- The first pixel of a block, as a word. -/
theorem muli_block : ∀ n : Fin 4, Scalar.muli (BitVec.ofNat 32 n.val) 1024#32 = BitVec.ofNat 32 (1024 * n.val) := by decide +kernel

/-- The first pixel of a block's window, as a word. -/
theorem window_word : ∀ n : Fin 4,
    Scalar.muli (Scalar.minsi (8#32) (Scalar.maxsi (0#32) (Scalar.subi (Scalar.muli (8#32) (BitVec.ofNat 32 n.val)) 8#32))) 128#32
      = BitVec.ofNat 32 (winStart n) := by decide +kernel

/-- The bilateral rows. -/
theorem bilRows_apply (i : grid1.Coords) (f : Vec Ideal S1024x8 .f32) (g : Vec Ideal S8x4096 .f32) (a : Vec Ideal S1024x1 .f32)
    (b : Vec Ideal S1x4096 .f32) (r : Fin 1024) (p : Fin 4096) :
    k1_pay1 i f g a b (ix2 r p) = if 1024 * (i 1).val + r.val = p.val then 0
      else min (Ideal.exp (a (ix2 r 0) + b (ix2 0 p) + inner (fun d => f (ix2 r d)) (fun d => g (ix2 d p)))) 1 := by
  pointwise [k1_pay1]
  have hi : (i 1).val < 4 := (i 1).isLt
  have hr := r.isLt
  have hp := p.isLt
  rw [show Scalar.muli (BitVec.ofNat 32 (i 1).val) 1024#32 = BitVec.ofNat 32 (1024 * (i 1).val) from muli_block ⟨(i 1).val, hi⟩, addi_ofNat,
    select_eq (by omega) (by omega)]
  rfl

/-- The spatial block. -/
theorem gauss_apply (i : grid0.Coords) (f : Vec Ideal S3072x8 .f32) (g : Vec Ideal S8x1024 .f32) (a : Vec Ideal S3072x1 .f32)
    (b : Vec Ideal S1x1024 .f32) (r : Fin 3072) (p : Fin 1024) :
    k0_pay1 i f g a b (ix2 r p) = if winStart (i 0) + r.val = 1024 * (i 0).val + p.val then 0
      else min (Ideal.exp (a (ix2 r 0) + b (ix2 0 p) + inner (fun d => f (ix2 r d)) (fun d => g (ix2 d p)))) 1 := by
  pointwise [k0_pay1]
  have hi : (i 0).val < 4 := (i 0).isLt
  have hr := r.isLt
  have hp := p.isLt
  have hw : winStart (i 0) ≤ 1024 := by unfold winStart; split <;> omega
  rw [show Scalar.muli (BitVec.ofNat 32 (i 0).val) 1024#32 = BitVec.ofNat 32 (1024 * (i 0).val) from muli_block ⟨(i 0).val, hi⟩,
    show Scalar.muli (Scalar.minsi (8#32) (Scalar.maxsi (0#32) (Scalar.subi (Scalar.muli (8#32) (BitVec.ofNat 32 (i 0).val)) 8#32))) 128#32
      = BitVec.ofNat 32 (winStart (i 0)) from window_word ⟨(i 0).val, hi⟩, addi_ofNat, addi_ofNat, select_eq (by omega) (by omega)]
  rfl

/-- The exponentiated energies of a column block. -/
theorem energy_apply (Q : Vec Ideal S21x4096 .bf16) (W : Vec Ideal S21x3072 .bf16) (K : Vec Ideal S4096x1024 .bf16) (S : Vec Ideal S3072x1024 .bf16)
    (a b : Elt Ideal .f32) (u : Vec Ideal S21x1024 .f32) (l : Fin 21) (p : Fin 1024) :
    k1_pay7 Q W K S a b u (ix2 l p) = pots (fun k => -u (ix2 k p)
      - ((∑ k' : Fin 21, (a * (∑ q : Fin 4096, Q (ix2 k' q) * K (ix2 q p)) + b * ∑ r : Fin 3072, W (ix2 k' r) * S (ix2 r p)))
        - (a * (∑ q : Fin 4096, Q (ix2 k q) * K (ix2 q p)) + b * ∑ r : Fin 3072, W (ix2 k r) * S (ix2 r p)))) l := by
  pointwise [k1_pay7]
  simp only [zero_sub]
  rfl

end Cert.KernelIdeal.Crf

end
-- ==== Proof.Math.Rounds.lean ====
module

public import proofs.«01_k».proof.Proof.Math.Payload

/-! The kernel's iterates are the mean-field iterates, whatever its two affinities are. -/

@[expose] public section

noncomputable section

namespace Cert.KernelIdeal.Crf

open Cert.KernelIdeal Cert.KernelIdeal.Gen Cert.Crf
open Idealize.ShloMosaic Idealize.ShloMosaic.TcCoe

theorem cols_apply {e : EltTy} (X : S21x4096.Idx → Elt Ideal e) (j : Fin 4) (l : Fin 21) (p : Fin 1024) :
    cols X j (ix2 l p) = X (ix2 l ⟨1024 * j.val + p.val, by have := j.isLt; have := p.isLt; omega⟩) := by
  unfold cols box
  exact congrArg X (by idx_ext)

theorem wcols_apply {e : EltTy} (X : S21x4096.Idx → Elt Ideal e) (j : Fin 4) (l : Fin 21) (r : Fin 3072) :
    wcols X j (ix2 l r) = X (ix2 l ⟨winStart j + r.val, by have := r.isLt; unfold winStart; split <;> omega⟩) := by
  unfold wcols box
  exact congrArg X (by idx_ext)

theorem kcols_apply {e : EltTy} (X : S4096x4096.Idx → Elt Ideal e) (j : Fin 4) (q : Fin 4096) (p : Fin 1024) :
    kcols X j (ix2 q p) = X (ix2 q ⟨1024 * j.val + p.val, by have := j.isLt; have := p.isLt; omega⟩) := by
  unfold kcols box
  exact congrArg X (by idx_ext)

/-- The column block of pixel `p`. -/
def blockOf (p : Fin 4096) : Fin 4 := ⟨p.val / 1024, by have := p.isLt; omega⟩

/-- The place of pixel `p` in its block. -/
def placeOf (p : Fin 4096) : Fin 1024 := ⟨p.val % 1024, Nat.mod_lt _ (by decide)⟩

theorem glueCols_apply {e : EltTy} (f : Fin 4 → S21x1024.Idx → Elt Ideal e) (l : Fin 21) (p : Fin 4096) :
    glueCols f (ix2 l p) = f (blockOf p) (ix2 l (placeOf p)) := rfl

/-- The first pixel of the window of pixel `p`'s block. -/
def winOf (p : Fin 4096) : ℕ := winStart ⟨p.val / 1024, by have := p.isLt; omega⟩

theorem winOf_le (p : Fin 4096) : winOf p + 3072 ≤ 4096 := by unfold winOf winStart; split <;> omega

/-- The `r`-th pixel of pixel `p`'s window. -/
def winPix (p : Fin 4096) (r : Fin 3072) : Fin 4096 := ⟨winOf p + r.val, by have := winOf_le p; have := r.isLt; omega⟩

section

variable (o : Operands Ideal) (K S : Fin 4096 → Fin 4096 → EReal)
  (hK : ∀ q p : Fin 4096, (o.bil (ix2 q p) : EReal) = K p q)
  (hS : ∀ (p : Fin 4096) (r : Fin 3072), (o.ks (blockOf p) (ix2 r (placeOf p)) : EReal) = S p (winPix p r))
  (hS0 : ∀ p q : Fin 4096, (q.val < winOf p ∨ winOf p + 3072 ≤ q.val) → S p q = 0)

include hK hS hS0

/-- The exponentiated energies the kernel computes from an iterate. -/
theorem energies_eq (Q : Vec Ideal S21x4096 .bf16) (l : Fin 21) (p : Fin 4096) :
    o.energy Q (blockOf p) (ix2 l (placeOf p))
      = energies (fun l p => o.ut (ix2 l p)) (msg K S o.wb o.ws fun l p => Q (ix2 l p)) l p := by
  unfold Operands.energy
  rw [energy_apply]
  have hp : (⟨1024 * (blockOf p).val + (placeOf p).val, by have := (blockOf p).isLt; have := (placeOf p).isLt; omega⟩ : Fin 4096) = p := Fin.ext (Nat.div_add_mod _ _)
  have hm : ∀ k : Fin 21, (o.wb * (∑ q : Fin 4096, Q (ix2 k q) * kcols o.bil (blockOf p) (ix2 q (placeOf p)))
      + o.ws * ∑ r : Fin 3072, wcols Q (blockOf p) (ix2 k r) * o.ks (blockOf p) (ix2 r (placeOf p)) : EReal)
      = msg K S o.wb o.ws (fun l p => Q (ix2 l p)) k p := by
    intro k
    unfold msg
    refine congrArg₂ (fun x y : EReal => o.wb * x + o.ws * y) (Finset.sum_congr rfl fun q _ => ?_) ?_
    · rw [kcols_apply, hp, hK, mul_comm]
    · rw [sum_window (winOf p) (winOf_le p) (fun q => S p q * Q (ix2 k q)) fun q hq => by rw [hS0 p q hq, zero_mul]]
      refine Finset.sum_congr rfl fun r _ => ?_
      rw [hS, wcols_apply, mul_comm]
      rfl
  simp only [hm, cols_apply, hp]
  rfl

/-- Every iterate. -/
theorem iter_eq (n : ℕ) (l : Fin 21) (p : Fin 4096) :
    o.iter n (ix2 l p) = iterate K S o.wb o.ws (fun l p => o.ut (ix2 l p)) n l p := by
  induction n generalizing l p with
  | zero => exact start_apply o.ut l p
  | succ n ih =>
    have e : (fun l p => o.iter n (ix2 l p) : Field) = iterate K S o.wb o.ws (fun l p => o.ut (ix2 l p)) n := funext fun l => funext fun p => ih l p
    refine (glueCols_apply (e := .bf16) (fun j => k1_pay4 (o.energy (o.iter n) j)) l p).trans ((share_narrow_apply _ _ _).trans ?_)
    simp only [energies_eq o K S hK hS hS0, e]
    rfl

/-- The result is the fifth iterate. -/
theorem result_eq (l : Fin 21) (p : Fin 4096) :
    o.result (ix2 l p) = iterate K S o.wb o.ws (fun l p => o.ut (ix2 l p)) 5 l p := by
  have e : (fun l p => o.iter 4 (ix2 l p) : Field) = iterate K S o.wb o.ws (fun l p => o.ut (ix2 l p)) 4 := funext fun l => funext fun p => iter_eq o K S hK hS hS0 4 l p
  refine (glueCols_apply (e := .f32) (fun j => k1_pay3 (o.energy (o.iter 4) j)) l p).trans ((share_apply _ _ _).trans ?_)
  simp only [energies_eq o K S hK hS hS0, e]
  rfl

end

end Cert.KernelIdeal.Crf

end
-- ==== Proof.Math.Entries.lean ====
module

public import proofs.«01_k».proof.Proof.Math.Arrays
public import proofs.«01_k».proof.Proof.Math.Host
public import proofs.«01_k».proof.Proof.Math.Rounds

/-! The arrays the two regions read, entry by entry, over the extended reals. -/

@[expose] public section

set_option maxRecDepth 16384

noncomputable section

namespace Cert.KernelIdeal.Crf

open Cert.KernelIdeal Cert.KernelIdeal.Gen Cert.Crf
open Idealize.ShloMosaic Idealize.ShloMosaic.TcCoe
open Idealize.ShloMosaic.Pipeline (Dat Cfg Window)

variable (x : FVec Ideal S64x64x3 .f32)

/-- Pixel `p`'s bilateral features. -/
def bil (p : Fin 4096) (d : Fin 5) : EReal := feats x (ix2 p d)
/-- Pixel `p`'s spatial features. -/
def spa (p : Fin 4096) (d : Fin 2) : EReal := (spats (F := Ideal)) (ix2 p d)
/-- The sixth and seventh of eight features are the spatial ones. -/
def spa8 (p : Fin 4096) (d : Fin 8) : EReal := if hd : 5 ≤ d.val ∧ d.val < 7 then spa p ⟨d.val - 5, by omega⟩ else 0
/-- The first five of eight features are the bilateral ones. -/
def bil8 (p : Fin 4096) (d : Fin 8) : EReal := if hd : d.val < 5 then bil x p ⟨d.val, hd⟩ else 0

theorem featsPad_apply (p : Fin 4096) (d : Fin 8) : featsPad x (ix2 p d) = bil8 x p d := by
  unfold bil8 bil
  pointwise [featsPad, zeros3]

theorem spatsPad_apply (p : Fin 4096) (d : Fin 8) : (spatsPad : FVec Ideal S4096x8 .f32) (ix2 p d) = spa8 p d := by
  unfold spa8 spa
  pointwise [spatsPad, zeros3]
  have := d.isLt
  by_cases h : d.val < 5
  · rw [dif_pos h, dif_neg (by omega)]
  · by_cases h' : d.val < 7
    · rw [dif_neg h, dif_pos (by omega), dif_pos (by omega)]
    · rw [dif_neg h, dif_neg (by omega), dif_neg (by omega)]

theorem bothT_apply (p : Fin 4096) (d : Fin 8) : bothT x (ix2 d p) = bil8 x p d + spa8 p d := by
  rw [← featsPad_apply, ← spatsPad_apply]
  pointwise [bothT]

theorem halfB_apply (p : Fin 4096) : halfB x (ix1 p) = negHalf * inner (bil x p) (bil x p) := by
  pointwise [halfB]
  rfl

theorem halfS_apply (p : Fin 4096) : (halfS : FVec Ideal S4096 .f32) (ix1 p) = negHalf * inner (spa p) (spa p) := by
  pointwise [halfS]
  rfl

theorem halfB_col (p : Fin 4096) : (broadcastInDim S4096x1 ![0] bcast_S4096_S4096x1_0 (halfB x) : FVec Ideal S4096x1 .f32) (ix2 p 0) = negHalf * inner (bil x p) (bil x p) := by
  rw [← halfB_apply]; pointwise
theorem halfB_row (p : Fin 4096) : (broadcastInDim S1x4096 ![1] bcast_S4096_S1x4096_1 (halfB x) : FVec Ideal S1x4096 .f32) (ix2 0 p) = negHalf * inner (bil x p) (bil x p) := by
  rw [← halfB_apply]; pointwise
theorem halfS_col (p : Fin 4096) : (broadcastInDim S4096x1 ![0] bcast_S4096_S4096x1_0 halfS : FVec Ideal S4096x1 .f32) (ix2 p 0) = negHalf * inner (spa p) (spa p) := by
  rw [← halfS_apply]; pointwise
theorem halfS_row (p : Fin 4096) : (broadcastInDim S1x4096 ![1] bcast_S4096_S1x4096_1 halfS : FVec Ideal S1x4096 .f32) (ix2 0 p) = negHalf * inner (spa p) (spa p) := by
  rw [← halfS_apply]; pointwise

/-- The inner product the bilateral affinity is made of. -/
theorem inner_bil (q p : Fin 4096) : inner (bil8 x q) (fun d => bil8 x p d + spa8 p d) = inner (bil x q) (bil x p) :=
  inner_pad5 (bil x q) (bil x p) (spa8 p) _ _ (fun _ => rfl) (fun _ => rfl) fun d hd => dif_neg (by omega)

/-- The inner product the spatial affinity is made of. -/
theorem inner_spa (q p : Fin 4096) : inner (spa8 q) (fun d => bil8 x p d + spa8 p d) = inner (spa q) (spa p) :=
  inner_pad2 (spa q) (spa p) (bil8 x p) _ _ (fun _ => rfl) (fun _ => rfl) fun d hd => dif_neg (by omega)

/-! ## A window that is its whole array reads the array -/

variable (V : Contents Ideal)

/-- A box the size of its array is the array. -/
theorem box_whole {s : Shape} {e : EltTy} (X : s.Idx → Elt Ideal e) (off : Fin s.rank → ℕ) (inb : ∀ a, off a + s.size a ≤ s.size a) :
    (box X off s.size inb : s.Idx → Elt Ideal e) = X := funext fun y => by
  unfold box
  exact congrArg X (Rect.emb_unit_full inb y)

theorem blk0_0 (c : Dev nD) (t : Fin cfg0.N) : blk0 V c 0 t = V c main_call0_v22 :=
  box_whole (s := S4096x8) (e := .f32) (V c main_call0_v22) (fun a => (cfg0.win 0).index t a * S4096x8.size a) (fun a => by
    rw [show (cfg0.win 0).index t a = 0 from by fin_cases a <;> rfl, Nat.zero_mul, Nat.zero_add])

theorem blk0_1 (c : Dev nD) (t : Fin cfg0.N) : blk0 V c 1 t = V c main_call0_v24 :=
  box_whole (s := S8x4096) (e := .f32) (V c main_call0_v24) (fun a => (cfg0.win 1).index t a * S8x4096.size a) (fun a => by
    rw [show (cfg0.win 1).index t a = 0 from by fin_cases a <;> rfl, Nat.zero_mul, Nat.zero_add])

theorem blk0_2 (c : Dev nD) (t : Fin cfg0.N) : blk0 V c 2 t = V c main_call0_v35 :=
  box_whole (s := S4096x1) (e := .f32) (V c main_call0_v35) (fun a => (cfg0.win 2).index t a * S4096x1.size a) (fun a => by
    rw [show (cfg0.win 2).index t a = 0 from by fin_cases a <;> rfl, Nat.zero_mul, Nat.zero_add])

theorem blk0_3 (c : Dev nD) (t : Fin cfg0.N) : blk0 V c 3 t = V c main_call0_v36 :=
  box_whole (s := S1x4096) (e := .f32) (V c main_call0_v36) (fun a => (cfg0.win 3).index t a * S1x4096.size a) (fun a => by
    rw [show (cfg0.win 3).index t a = 0 from by fin_cases a <;> rfl, Nat.zero_mul, Nat.zero_add])

theorem whole1_0 (c : Dev nD) (t : Fin cfg1.N) : blk1 V c 0 t = V c main_call0_v20 :=
  box_whole (s := S4096x8) (e := .f32) (V c main_call0_v20) (fun a => (cfg1.win 0).index t a * S4096x8.size a) (fun a => by
    rw [show (cfg1.win 0).index t a = 0 from by fin_cases a <;> rfl, Nat.zero_mul, Nat.zero_add])

theorem whole1_1 (c : Dev nD) (t : Fin cfg1.N) : blk1 V c 1 t = V c main_call0_v24 :=
  box_whole (s := S8x4096) (e := .f32) (V c main_call0_v24) (fun a => (cfg1.win 1).index t a * S8x4096.size a) (fun a => by
    rw [show (cfg1.win 1).index t a = 0 from by fin_cases a <;> rfl, Nat.zero_mul, Nat.zero_add])

theorem whole1_2 (c : Dev nD) (t : Fin cfg1.N) : blk1 V c 2 t = V c main_call0_v38 :=
  box_whole (s := S4096x1) (e := .f32) (V c main_call0_v38) (fun a => (cfg1.win 2).index t a * S4096x1.size a) (fun a => by
    rw [show (cfg1.win 2).index t a = 0 from by fin_cases a <;> rfl, Nat.zero_mul, Nat.zero_add])

theorem whole1_3 (c : Dev nD) (t : Fin cfg1.N) : blk1 V c 3 t = V c main_call0_v39 :=
  box_whole (s := S1x4096) (e := .f32) (V c main_call0_v39) (fun a => (cfg1.win 3).index t a * S1x4096.size a) (fun a => by
    rw [show (cfg1.win 3).index t a = 0 from by fin_cases a <;> rfl, Nat.zero_mul, Nat.zero_add])

theorem whole1_4 (c : Dev nD) (t : Fin cfg1.N) : blk1 V c 4 t = V c main_call0_v1 :=
  box_whole (s := S21x4096) (e := .f32) (V c main_call0_v1) (fun a => (cfg1.win 4).index t a * S21x4096.size a) (fun a => by
    rw [show (cfg1.win 4).index t a = 0 from by fin_cases a <;> rfl, Nat.zero_mul, Nat.zero_add])

theorem whole1_6 (c : Dev nD) (t : Fin cfg1.N) : blk1 V c 6 t = V c main_call0_v33 :=
  box_whole (s := S1) (e := .f32) (V c main_call0_v33) (fun a => (cfg1.win 6).index t a * S1.size a) (fun a => by
    rw [show (cfg1.win 6).index t a = 0 from by fin_cases a <;> rfl, Nat.zero_mul, Nat.zero_add])

theorem whole1_7 (c : Dev nD) (t : Fin cfg1.N) : blk1 V c 7 t = V c main_call0_v34 :=
  box_whole (s := S1) (e := .f32) (V c main_call0_v34) (fun a => (cfg1.win 7).index t a * S1.size a) (fun a => by
    rw [show (cfg1.win 7).index t a = 0 from by fin_cases a <;> rfl, Nat.zero_mul, Nat.zero_add])

end Cert.KernelIdeal.Crf

end
-- ==== Proof.Math.Kernel.lean ====
module

public import proofs.«01_k».proof.Proof.Math.Entries

/-! The kernel's two affinity arrays and its result, entry by entry, over the extended reals. -/

@[expose] public section

set_option maxRecDepth 16384
set_option maxHeartbeats 2000000

noncomputable section

namespace Cert.KernelIdeal.Crf

open Cert.KernelIdeal Cert.KernelIdeal.Gen Cert.Crf
open Idealize.ShloMosaic Idealize.ShloMosaic.TcCoe
open Idealize.ShloMosaic.Pipeline (Dat Cfg Window)

/-- The bilateral affinity of two pixels. -/
def bilateral (x : FVec Ideal S64x64x3 .f32) (q p : Fin 4096) : EReal := if q = p then 0 else aff (bil x q) (bil x p)

/-- The spatial affinity of pixel `p` with pixel `q`, zero outside `p`'s window. -/
def spatial (p q : Fin 4096) : EReal :=
  if q.val < winOf p ∨ winOf p + 3072 ≤ q.val then 0 else if q = p then 0 else aff (spa q) (spa p)

/-- The bilateral affinity is symmetric. -/
theorem bilateral_comm (x : FVec Ideal S64x64x3 .f32) (q p : Fin 4096) : bilateral x q p = bilateral x p q := by
  unfold bilateral
  rw [aff_comm]
  exact if_congr eq_comm rfl rfl

variable (m : (ℓ : Loc nD τ sig) → Buf (Elt Ideal) ℓ) (c : Dev nD)

/-- The image the program is called with. -/
abbrev image : FVec Ideal S64x64x3 .f32 := m ((c : Thread nD τ).loc main_arg1)

theorem fb_eq : (operands (C3 m) c).fb = featsPad (image m c) :=
  (blk1_0 (C3 m) c (pt 0 (by decide))).symm.trans <| (whole1_0 (C3 m) c (pt 0 (by decide))).trans ((V3_of m c main_call0_v20 (by decide) (by decide)).trans (V1_v20 m c))
theorem ft_eq : (operands (C3 m) c).ft = bothT (image m c) :=
  (blk1_1 (C3 m) c (pt 0 (by decide))).symm.trans <| (whole1_1 (C3 m) c (pt 0 (by decide))).trans ((V3_of m c main_call0_v24 (by decide) (by decide)).trans (V1_v24 m c))
theorem sc_eq : (operands (C3 m) c).sc = broadcastInDim S4096x1 ![0] bcast_S4096_S4096x1_0 (halfB (image m c)) :=
  (blk1_2 (C3 m) c (pt 0 (by decide))).symm.trans <| (whole1_2 (C3 m) c (pt 0 (by decide))).trans ((V3_v38 m c).trans (by rw [V1_v28]))
theorem sr_eq : (operands (C3 m) c).sr = broadcastInDim S1x4096 ![1] bcast_S4096_S1x4096_1 (halfB (image m c)) :=
  (blk1_3 (C3 m) c (pt 0 (by decide))).symm.trans <| (whole1_3 (C3 m) c (pt 0 (by decide))).trans ((V3_v39 m c).trans (by rw [V1_v28]))

theorem labels_apply (u : Vec Ideal S64x64x21 .f32) (l : Fin 21) (p : Fin 4096) :
    (transpose S21x4096 [1, 0] (shapeCast S4096x21 u shapeCasts_S64x64x21_S4096x21) transposes_S4096x21_S21x4096_1_0 : Vec Ideal S21x4096 .f32) (ix2 l p)
      = u (ix3 ⟨p.val / 64, by have := p.isLt; omega⟩ ⟨p.val % 64, Nat.mod_lt _ (by decide)⟩ l) := by
  pointwise

theorem one_apply (u : Vec Ideal S_ .f32) : (shapeCast S1 u shapeCasts_S_S1 : Vec Ideal S1 .f32) (ix1 0) = u ix0 := by
  pointwise

/-- The unary energies the program is called with. -/
def unary (l : Fin 21) (p : Fin 4096) : EReal :=
  (m ((c : Thread nD τ).loc main_arg0) : Vec Ideal S64x64x21 .f32) (ix3 ⟨p.val / 64, by have := p.isLt; omega⟩ ⟨p.val % 64, Nat.mod_lt _ (by decide)⟩ l)

theorem ut_apply (l : Fin 21) (p : Fin 4096) : ((operands (C3 m) c).ut (ix2 l p) : EReal) = unary m c l p :=
  (congrFun ((blk1_4 (C3 m) c (pt 0 (by decide))).symm.trans <| (whole1_4 (C3 m) c (pt 0 (by decide))).trans
    ((V3_of m c main_call0_v1 (by decide) (by decide)).trans (V1_v1 m c))) (ix2 l p)).trans (labels_apply _ l p)

/-- The two weights the program is called with. -/
def weightB : EReal := (m ((c : Thread nD τ).loc main_arg2) : Vec Ideal S_ .f32) ix0
def weightS : EReal := (m ((c : Thread nD τ).loc main_arg3) : Vec Ideal S_ .f32) ix0

theorem wb_eq : ((operands (C3 m) c).wb : EReal) = weightB m c := by
  have e := (whole1_6 (C3 m) c (pt 0 (by decide))).trans ((V3_of m c main_call0_v33 (by decide) (by decide)).trans (V1_v33 m c))
  refine (blk1_6 (C3 m) c (pt 0 (by decide))).symm.trans ((congrFun e only).trans ?_)
  rw [← eq_only (ix1 (0 : Fin 1))]
  exact one_apply _

theorem ws_eq : ((operands (C3 m) c).ws : EReal) = weightS m c := by
  have e := (whole1_7 (C3 m) c (pt 0 (by decide))).trans ((V3_of m c main_call0_v34 (by decide) (by decide)).trans (V1_v34 m c))
  refine (blk1_7 (C3 m) c (pt 0 (by decide))).symm.trans ((congrFun e only).trans ?_)
  rw [← eq_only (ix1 (0 : Fin 1))]
  exact one_apply _

/-! ## Boxes, entry by entry -/

theorem rows8_apply (X : Vec Ideal S4096x8 .f32) (n : ℕ) (inb) (r : Fin 1024) (d : Fin 8) (h : n + r.val < 4096) :
    (box X ![n, 0] S1024x8.size inb : Vec Ideal S1024x8 .f32) (ix2 r d) = X (ix2 ⟨n + r.val, h⟩ d) := by
  unfold box
  exact congrArg X (by idx_ext)

theorem rows1_apply (X : Vec Ideal S4096x1 .f32) (n : ℕ) (inb) (r : Fin 1024) (h : n + r.val < 4096) :
    (box X ![n, 0] S1024x1.size inb : Vec Ideal S1024x1 .f32) (ix2 r 0) = X (ix2 ⟨n + r.val, h⟩ 0) := by
  unfold box
  exact congrArg X (by idx_ext)

theorem wrows8_apply (X : Vec Ideal S4096x8 .f32) (n : ℕ) (inb) (r : Fin 3072) (d : Fin 8) (h : n + r.val < 4096) :
    (box X ![n, 0] S3072x8.size inb : Vec Ideal S3072x8 .f32) (ix2 r d) = X (ix2 ⟨n + r.val, h⟩ d) := by
  unfold box
  exact congrArg X (by idx_ext)

theorem wrows1_apply (X : Vec Ideal S4096x1 .f32) (n : ℕ) (inb) (r : Fin 3072) (h : n + r.val < 4096) :
    (box X ![n, 0] S3072x1.size inb : Vec Ideal S3072x1 .f32) (ix2 r 0) = X (ix2 ⟨n + r.val, h⟩ 0) := by
  unfold box
  exact congrArg X (by idx_ext)

theorem cols8_apply (X : Vec Ideal S8x4096 .f32) (n : ℕ) (inb) (d : Fin 8) (p : Fin 1024) (h : n + p.val < 4096) :
    (box X ![0, n] S8x1024.size inb : Vec Ideal S8x1024 .f32) (ix2 d p) = X (ix2 d ⟨n + p.val, h⟩) := by
  unfold box
  exact congrArg X (by idx_ext)

theorem cols1_apply (X : Vec Ideal S1x4096 .f32) (n : ℕ) (inb) (p : Fin 1024) (h : n + p.val < 4096) :
    (box X ![0, n] S1x1024.size inb : Vec Ideal S1x1024 .f32) (ix2 0 p) = X (ix2 0 ⟨n + p.val, h⟩) := by
  unfold box
  exact congrArg X (by idx_ext)

/-! ## The bilateral affinities -/

/-- In the first sweep the point's block is the point. -/
theorem coord1 : ∀ j : Fin 4, ((grid1.coords ⟨j.val, by have := j.isLt; rw [N_1]; omega⟩) 1).val = j.val := by decide +kernel

theorem bil_apply (q p : Fin 4096) : ((operands (C3 m) c).bil (ix2 q p) : EReal) = bilateral (image m c) q p := by
  have hj : q.val / 1024 < 4 := by have := q.isLt; omega
  have hr : q.val % 1024 < 1024 := Nat.mod_lt _ (by decide)
  have hq : (⟨1024 * (q.val / 1024) + q.val % 1024, by have := q.isLt; omega⟩ : Fin 4096) = q := Fin.ext (Nat.div_add_mod _ _)
  have hlt : 1024 * (q.val / 1024) + (⟨q.val % 1024, hr⟩ : Fin 1024).val < 4096 := by show _ + q.val % 1024 < _; have := q.isLt; omega
  refine (show _ = (operands (C3 m) c).bilRows ⟨q.val / 1024, hj⟩ (ix2 ⟨q.val % 1024, hr⟩ p) from rfl).trans ?_
  unfold Operands.bilRows
  rw [bilRows_apply, coord1 ⟨q.val / 1024, hj⟩, rows1_apply _ _ _ _ hlt]
  simp only [↓rows8_apply _ _ _ _ _ hlt]
  unfold bilateral aff
  simp only [hq, fb_eq, ft_eq, sc_eq, sr_eq, featsPad_apply, bothT_apply, inner_bil]
  exact if_congr (by rw [Nat.div_add_mod]; exact Fin.ext_iff.symm) rfl
    (congrArg (fun z => min (Ideal.exp z) 1) (congrArg₂ (· + ·) (congrArg₂ (· + ·) (halfB_col _ q) (halfB_row _ p)) rfl))

/-! ## The spatial affinities -/

/-- The first region's point is its block. -/
theorem coord0 : ∀ t : Fin grid0.N, ((grid0.coords t) 0).val = t.val := by decide +kernel
theorem off0_1 : ∀ t : Fin grid0.N, k0_off1 (grid0.coords t) = ![winStart ⟨t.val, lt_of_lt_of_eq t.isLt N_0⟩, 0] := by decide +kernel
theorem off0_2 : ∀ t : Fin grid0.N, k0_off2 (grid0.coords t) = ![0, 1024 * t.val] := by decide +kernel
theorem off0_3 : ∀ t : Fin grid0.N, k0_off3 (grid0.coords t) = ![winStart ⟨t.val, lt_of_lt_of_eq t.isLt N_0⟩, 0] := by decide +kernel
theorem off0_4 : ∀ t : Fin grid0.N, k0_off4 (grid0.coords t) = ![0, 1024 * t.val] := by decide +kernel

theorem winStart_le (j : Fin 4) : winStart j + 3072 ≤ 4096 := by unfold winStart; split <;> omega

/-- A Gaussian block, entry by entry. -/
theorem gaussBlock_apply (t : Fin grid0.N) (r : Fin 3072) (p : Fin 1024)
    (h : winStart ⟨t.val, lt_of_lt_of_eq t.isLt N_0⟩ + r.val < 4096) (h' : 1024 * t.val + p.val < 4096) :
    (gauss (C1 m) c t (ix2 r p) : EReal)
      = if winStart ⟨t.val, lt_of_lt_of_eq t.isLt N_0⟩ + r.val = 1024 * t.val + p.val then 0
        else aff (spa ⟨winStart ⟨t.val, lt_of_lt_of_eq t.isLt N_0⟩ + r.val, h⟩) (spa ⟨1024 * t.val + p.val, h'⟩) := by
  have hx : gauss (C1 m) c t = k0_pay1 (grid0.coords t) (box (s := S4096x8) (e := .f32) spatsPad (k0_off1 (grid0.coords t)) S3072x8.size (k0_off1_inb _))
      (box (s := S8x4096) (e := .f32) (bothT (image m c)) (k0_off2 (grid0.coords t)) S8x1024.size (k0_off2_inb _))
      (box (s := S4096x1) (e := .f32) (broadcastInDim S4096x1 ![0] bcast_S4096_S4096x1_0 halfS) (k0_off3 (grid0.coords t)) S3072x1.size (k0_off3_inb _))
      (box (s := S1x4096) (e := .f32) (broadcastInDim S1x4096 ![1] bcast_S4096_S1x4096_1 halfS) (k0_off4 (grid0.coords t)) S1x1024.size (k0_off4_inb _)) := by
    unfold gauss
    rw [show blk0 (C1 m) c 0 t = _ from (blk0_0 (C1 m) c t).trans (V1_v22 m c), show blk0 (C1 m) c 1 t = _ from (blk0_1 (C1 m) c t).trans (V1_v24 m c),
      show blk0 (C1 m) c 2 t = _ from (blk0_2 (C1 m) c t).trans (V1_v35 m c), show blk0 (C1 m) c 3 t = _ from (blk0_3 (C1 m) c t).trans (V1_v36 m c)]
  rw [hx, box_congr (s := S4096x8) (e := .f32) _ (off0_1 t) _ (off0_1 t ▸ k0_off1_inb _), box_congr (s := S8x4096) (e := .f32) _ (off0_2 t) _ (off0_2 t ▸ k0_off2_inb _),
    box_congr (s := S4096x1) (e := .f32) _ (off0_3 t) _ (off0_3 t ▸ k0_off3_inb _), box_congr (s := S1x4096) (e := .f32) _ (off0_4 t) _ (off0_4 t ▸ k0_off4_inb _), gauss_apply]
  have e0 : (grid0.coords t) 0 = (⟨t.val, lt_of_lt_of_eq t.isLt N_0⟩ : Fin 4) := Fin.ext (coord0 t)
  rw [coord0 t, show winStart ((grid0.coords t) 0) = _ from congrArg winStart e0, wrows1_apply _ _ _ _ h, cols1_apply _ _ _ _ h']
  simp only [↓wrows8_apply _ _ _ _ _ h, ↓cols8_apply _ _ _ _ _ h']
  simp only [spatsPad_apply, bothT_apply, inner_spa]
  exact if_congr Iff.rfl rfl (congrArg (fun z => min (Ideal.exp z) 1) (congrArg₂ (· + ·) (congrArg₂ (· + ·) (halfS_col _) (halfS_row _)) rfl))

theorem ks_apply (p : Fin 4096) (r : Fin 3072) :
    ((operands (C3 m) c).ks (blockOf p) (ix2 r (placeOf p)) : EReal) = spatial p (winPix p r) := by
  have hp := p.isLt
  have hr := r.isLt
  have hw := winOf_le p
  have e : (operands (C3 m) c).ks (blockOf p) = box (s := S3072x4096) (e := .bf16) (gaussAll (C1 m) c) ![0, 1024 * (p.val / 1024)] S3072x1024.size
      (Fin.forall_fin_two.mpr ⟨by simp, by simp; omega⟩) := by
    refine (blk1_5_box (C3 m) c (pt (4 + p.val / 1024) (by omega))).trans ?_
    rw [show C3 m c main_call0_v37 = _ from V3_v37 m c]
    refine box_congr _ ?_ _ _
    rw [off1_5_eq _ (by show 4 ≤ 4 + p.val / 1024; omega)]
    show ![0, 1024 * ((4 + p.val / 1024) % 4)] = _
    rw [show (4 + p.val / 1024) % 4 = p.val / 1024 by omega]
  have e2 : (operands (C3 m) c).ks (blockOf p) (ix2 r (placeOf p))
      = gauss (C1 m) c ⟨p.val / 1024, by rw [show cfg0.N = 4 from N_0]; omega⟩ (ix2 r (placeOf p)) := by
    rw [e]
    refine (show _ = gaussAll (C1 m) c (ix2 r p) from ?_).trans rfl
    unfold box
    refine congrArg (gaussAll (C1 m) c) (funext fun a => Fin.ext ?_)
    fin_cases a
    · show 0 + 1 * r.val = r.val; omega
    · show 1024 * (p.val / 1024) + 1 * (p.val % 1024) = p.val; omega
  rw [e2]
  refine (gaussBlock_apply m c ⟨p.val / 1024, _⟩ r ⟨p.val % 1024, _⟩ (by show winOf p + r.val < 4096; omega) (by show 1024 * (p.val / 1024) + p.val % 1024 < 4096; omega)).trans ?_
  have hpp : (⟨1024 * (p.val / 1024) + p.val % 1024, by omega⟩ : Fin 4096) = p := Fin.ext (Nat.div_add_mod _ _)
  refine Eq.trans ?_ (show spatial p (winPix p r) = _ from if_neg (by show ¬(winOf p + r.val < winOf p ∨ winOf p + 3072 ≤ winOf p + r.val); omega)).symm
  refine if_congr ?_ rfl ?_
  · rw [Fin.ext_iff]
    show winOf p + r.val = 1024 * (p.val / 1024) + p.val % 1024 ↔ winOf p + r.val = p.val
    rw [Nat.div_add_mod]
  · exact congrArg₂ (fun a b => aff (spa a) (spa b)) rfl hpp

/-- The second region's result is the fifth mean-field iterate. -/
theorem result_apply (l : Fin 21) (p : Fin 4096) : ((operands (C3 m) c).result (ix2 l p) : EReal)
    = iterate (bilateral (image m c)) spatial (weightB m c) (weightS m c) (unary m c) 5 l p := by
  rw [result_eq (operands (C3 m) c) (bilateral (image m c)) spatial (fun q p => (bil_apply m c q p).trans (bilateral_comm _ q p)) (ks_apply m c) (fun p q h => if_pos h) l p, wb_eq, ws_eq,
    show (fun l p => (operands (C3 m) c).ut (ix2 l p) : Field) = unary m c from funext fun l => funext fun p => ut_apply m c l p]

/-- The program's result, entry by entry. -/
theorem output_apply (i j : Fin 64) (l : Fin 21) : ((V5 m c main_v0 : Vec Ideal S64x64x21 .f32) (ix3 i j l) : EReal)
    = iterate (bilateral (image m c)) spatial (weightB m c) (weightS m c) (unary m c) 5 l ⟨i.val * 64 + j.val, by have := i.isLt; have := j.isLt; omega⟩ := by
  rw [V5_v0, ← result_apply]
  pointwise

end Cert.KernelIdeal.Crf

end
-- ==== Proof.Math.Reference.lean ====
module

public import proofs.«01_k».proof.Proof.Gen.ReferenceIdeal.Run
public import proofs.«01_k».proof.Proof.Math.Step
public import Idealize.ShloMosaic.Lib.Pointwise

/-! What the reference computes, entry by entry, over the extended reals: its softmax and message passing as the mean-field
iterates of its two affinity arrays, and the entries of those arrays. -/

@[expose] public section

noncomputable section

namespace Cert.ReferenceIdeal.Crf

open Cert.ReferenceIdeal Cert.ReferenceIdeal.Gen Cert.ReferenceIdeal.Value
open Idealize.ShloMosaic Idealize.ShloMosaic.TcCoe Cert.Crf

/-! ## One round, as functions of arrays -/

/-- The exponentials of a pixel's label scores, shifted by the greatest. -/
def refPots (x : FVec Ideal S4096x21 .f32) : FVec Ideal S4096x21 .f32 :=
  Host.exp (subf x (broadcastInDim S4096x21 ![0, 1] bcast_S4096x1_S4096x21_0_1 (broadcastInDim S4096x1 ![0] bcast_S4096_S4096x1_0
    (maximumf (broadcastInDim S4096 ![] bcast_S_S4096 (constant S_ .f32 0xFF800000#32))
      (Host.reduce FloatOps.maximumf x (constant S_ .f32 0xFF800000#32) reducesTo_S4096x21_S4096_d1 h_S_)))))

/-- Each row divided by its sum. -/
def refShare (x : FVec Ideal S4096x21 .f32) : FVec Ideal S4096x21 .f32 :=
  Host.divf x (broadcastInDim S4096x21 ![0, 1] bcast_S4096x1_S4096x21_0_1 (broadcastInDim S4096x1 ![0] bcast_S4096_S4096x1_0
    (Host.reduceAdd x (constant S_ .f32 0x00000000#32) reducesTo_S4096x21_S4096_d1 h_S_)))

/-- The weighted messages of an iterate. -/
def refMsg (a b : FVec Ideal S_ .f32) (K S : FVec Ideal S4096x4096 .f32) (Q : FVec Ideal S4096x21 .f32) : FVec Ideal S4096x21 .f32 :=
  addf (mulf (broadcastInDim S4096x21 ![] bcast_S_S4096x21 a) (Host.dotGeneral dot_S4096x4096_S4096x21_S4096x21_1_0_0_1_n_n none K Q))
    (mulf (broadcastInDim S4096x21 ![] bcast_S_S4096x21 b) (Host.dotGeneral dot_S4096x4096_S4096x21_S4096x21_1_0_0_1_n_n none S Q))

/-- The label scores from unary energies and messages. -/
def refScores (u M : FVec Ideal S4096x21 .f32) : FVec Ideal S4096x21 .f32 :=
  subf (Host.negf u) (subf (broadcastInDim S4096x21 ![0, 1] bcast_S4096x1_S4096x21_0_1 (broadcastInDim S4096x1 ![0] bcast_S4096_S4096x1_0
    (Host.reduceAdd M (constant S_ .f32 0x00000000#32) reducesTo_S4096x21_S4096_d1 h_S_))) M)

theorem refPots_apply (x : FVec Ideal S4096x21 .f32) (p : Fin 4096) (l : Fin 21) : refPots x (ix2 p l) = pots (fun k => x (ix2 p k)) l := by
  pointwise [refPots]
  rw [max_eq_right ((Finset.le_fold_max _).mpr (Or.inl le_rfl))]
  rfl

theorem refShare_apply (x : FVec Ideal S4096x21 .f32) (p : Fin 4096) (l : Fin 21) : refShare x (ix2 p l) = share (fun k => x (ix2 p k)) l := by
  pointwise [refShare]
  rfl

theorem refMsg_apply (a b : FVec Ideal S_ .f32) (K S : FVec Ideal S4096x4096 .f32) (Q : FVec Ideal S4096x21 .f32) (p : Fin 4096) (l : Fin 21) :
    refMsg a b K S Q (ix2 p l) = msg (fun p q => K (ix2 p q)) (fun p q => S (ix2 p q)) (a ix0) (b ix0) (fun l q => Q (ix2 q l)) l p := by
  pointwise [refMsg]
  rfl

theorem refScores_apply (u M : FVec Ideal S4096x21 .f32) (p : Fin 4096) (l : Fin 21) :
    refScores u M (ix2 p l) = -u (ix2 p l) - ((∑ k, M (ix2 p k)) - M (ix2 p l)) := by
  pointwise [refScores]

/-- The iterates. -/
def refIter (a b : FVec Ideal S_ .f32) (K S : FVec Ideal S4096x4096 .f32) (u : FVec Ideal S4096x21 .f32) : ℕ → FVec Ideal S4096x21 .f32
  | 0 => refShare (refPots (Host.negf u))
  | n + 1 => refShare (refPots (refScores u (refMsg a b K S (refIter a b K S u n))))

/-- Each iterate is the mean-field iterate of the two affinity arrays. -/
theorem refIter_apply (a b : FVec Ideal S_ .f32) (K S : FVec Ideal S4096x4096 .f32) (u : FVec Ideal S4096x21 .f32) (n : ℕ) (p : Fin 4096) (l : Fin 21) :
    refIter a b K S u n (ix2 p l)
      = iterate (fun p q => K (ix2 p q)) (fun p q => S (ix2 p q)) (a ix0) (b ix0) (fun l p => u (ix2 p l)) n l p := by
  induction n generalizing l p with
  | zero =>
    refine (refShare_apply _ p l).trans ?_
    simp only [refPots_apply]
    rfl
  | succ n ih =>
    have e : (fun l q => refIter a b K S u n (ix2 q l) : Field)
        = iterate (fun p q => K (ix2 p q)) (fun p q => S (ix2 p q)) (a ix0) (b ix0) (fun l p => u (ix2 p l)) n := funext fun l => funext fun q => ih q l
    refine (refShare_apply _ p l).trans ?_
    simp only [refPots_apply, refScores_apply, refMsg_apply, e]
    rfl

/-! ## The program's terms are these -/

variable (V : Valuation τ sig (Elt Ideal))

/-- The reference's iterates at a memory's contents. -/
abbrev refQ (n : ℕ) : FVec Ideal S4096x21 .f32 :=
  refIter (V (Proc.devRef .tc main_arg2)) (V (Proc.devRef .tc main_arg3)) (res_main_v42 V) (res_main_v88 V) (res_main_v0 V) n

theorem v100_eq : res_main_v100 V = refQ V 0 := rfl
theorem v124_eq : res_main_v124 V = refQ V 1 := by
  show refShare (refPots (refScores (res_main_v0 V) (refMsg (V (Proc.devRef .tc main_arg2)) (V (Proc.devRef .tc main_arg3)) (res_main_v42 V) (res_main_v88 V) (res_main_v100 V)))) = _
  rw [v100_eq]; rfl
theorem v148_eq : res_main_v148 V = refQ V 2 := by
  show refShare (refPots (refScores (res_main_v0 V) (refMsg (V (Proc.devRef .tc main_arg2)) (V (Proc.devRef .tc main_arg3)) (res_main_v42 V) (res_main_v88 V) (res_main_v124 V)))) = _
  rw [v124_eq]; rfl
theorem v172_eq : res_main_v172 V = refQ V 3 := by
  show refShare (refPots (refScores (res_main_v0 V) (refMsg (V (Proc.devRef .tc main_arg2)) (V (Proc.devRef .tc main_arg3)) (res_main_v42 V) (res_main_v88 V) (res_main_v148 V)))) = _
  rw [v148_eq]; rfl
theorem v196_eq : res_main_v196 V = refQ V 4 := by
  show refShare (refPots (refScores (res_main_v0 V) (refMsg (V (Proc.devRef .tc main_arg2)) (V (Proc.devRef .tc main_arg3)) (res_main_v42 V) (res_main_v88 V) (res_main_v172 V)))) = _
  rw [v172_eq]; rfl
theorem last_eq : (Host.divf (res_main_v216 V) (broadcastInDim S4096x21 ![0, 1] bcast_S4096x1_S4096x21_0_1 (broadcastInDim S4096x1 ![0] bcast_S4096_S4096x1_0
    (Host.reduceAdd (res_main_v216 V) (constant S_ .f32 0x00000000#32) reducesTo_S4096x21_S4096_d1 h_S_))) : FVec Ideal S4096x21 .f32) = refQ V 5 := by
  show refShare (refPots (refScores (res_main_v0 V) (refMsg (V (Proc.devRef .tc main_arg2)) (V (Proc.devRef .tc main_arg3)) (res_main_v42 V) (res_main_v88 V) (res_main_v196 V)))) = _
  rw [v196_eq]; rfl

/-! ## The two affinity arrays -/

/-- One less the indicator of equality, the diagonal's factor. -/
theorem off_diagonal (i j : Fin 4096) (x : EReal) :
    x * (1 - (FloatOps.uitofp .f32 (IntOp.cmpi .eq (IntOp.addi (BitVec.ofNat 32 i.val) 0#32) (BitVec.ofNat 32 j.val)) : Ideal .f32)) = if i = j then 0 else x := by
  have e : (BitVec.ofNat 32 i.val = BitVec.ofNat 32 j.val) ↔ i = j :=
    ⟨fun h => by
      have := congrArg BitVec.toNat h
      have hi := i.isLt
      have hj := j.isLt
      rw [BitVec.toNat_ofNat, BitVec.toNat_ofNat, Nat.mod_eq_of_lt (by omega), Nat.mod_eq_of_lt (by omega)] at this
      exact Fin.ext this, fun h => by rw [h]⟩
  rw [show IntOp.addi (BitVec.ofNat 32 i.val) 0#32 = BitVec.ofNat 32 i.val from BitVec.add_zero _]
  by_cases h : i = j
  · subst h
    rw [if_pos rfl, show IntOp.cmpi .eq (BitVec.ofNat 32 i.val) (BitVec.ofNat 32 i.val) = 1#1 by unfold IntOp.cmpi; simp]
    show x * (1 - (((1#1 : BitVec 1).toNat : ℝ) : EReal)) = 0
    have e1 : (1 : EReal) - (((1#1 : BitVec 1).toNat : ℝ) : EReal) = 0 := by
      rw [show (((1#1 : BitVec 1).toNat : ℕ) : ℝ) = 1 from by simp, show (1 : EReal) = ((1 : ℝ) : EReal) from rfl, ← EReal.coe_sub, sub_self]
      rfl
    rw [e1, mul_zero]
  · have h' : ¬ BitVec.ofNat 32 i.val = BitVec.ofNat 32 j.val := fun k => h (e.mp k)
    rw [if_neg h, show IntOp.cmpi .eq (BitVec.ofNat 32 i.val) (BitVec.ofNat 32 j.val) = 0#1 by unfold IntOp.cmpi; rw [beq_eq_false_iff_ne.mpr h']; rfl]
    show x * (1 - (((0#1 : BitVec 1).toNat : ℝ) : EReal)) = x
    norm_num

/-- Pixel `p`'s bilateral features, as the reference has them. -/
def refBil (p : Fin 4096) (d : Fin 5) : EReal := (res_main_v14 V : FVec Ideal S4096x5 .f32) (ix2 p d)
/-- Pixel `p`'s spatial features, as the reference has them. -/
def refSpa (p : Fin 4096) (d : Fin 2) : EReal := (res_main_v16 V : FVec Ideal S4096x2 .f32) (ix2 p d)

theorem v18_apply (p : Fin 4096) : (res_main_v18 V : FVec Ideal S4096 .f32) (ix1 p) = inner (refBil V p) (refBil V p) := by
  unfold res_main_v18
  pointwise
  rfl
theorem v44_apply (p : Fin 4096) : (res_main_v44 V : FVec Ideal S4096 .f32) (ix1 p) = inner (refSpa V p) (refSpa V p) := by
  unfold res_main_v44
  pointwise
  rfl

/-- The bilateral affinities of real features. -/
theorem v42_apply (h : ∀ p d, ∃ r : ℝ, refBil V p d = r) (p q : Fin 4096) :
    (res_main_v42 V : FVec Ideal S4096x4096 .f32) (ix2 p q) = if p = q then 0 else aff (refBil V p) (refBil V q) := by
  rw [← exp_dist (h p) (h q)]
  unfold res_main_v42
  pointwise
  refine (off_diagonal p q _).trans (congrArg (fun z => if p = q then (0 : EReal) else Ideal.exp (negHalf * max z 0)) ?_)
  refine congrArg₂ (fun a b : EReal => a - b) (congrArg₂ (fun a b : EReal => a + b) (v18_apply V p) (v18_apply V q)) rfl

/-- The row of pixel `p`, as a word. -/
theorem v70_word : ∀ p : Fin 4096, (Scalar.select
      (IntOp.andi
        (IntOp.cmpi .ne (if BitVec.ofNat 32 p.val = 0 then (0 : BitVec 32) else if (BitVec.ofNat 32 p.val).msb = true then -1 else 1)
          (if (64#32 : BitVec 32) = 0 then 0 else if BitVec.msb (64#32) = true then -1 else 1))
        (IntOp.cmpi .ne (IntOp.remsi ArithUnit.host (BitVec.ofNat 32 p.val) 64#32) 0#32))
      (IntOp.subi (IntOp.divsi ArithUnit.host (BitVec.ofNat 32 p.val) 64#32) 1#32)
      (IntOp.divsi ArithUnit.host (BitVec.ofNat 32 p.val) 64#32)) = BitVec.ofNat 32 (p.val / 64) := by decide +kernel

theorem v71_apply (p : Fin 4096) : (res_main_v71 V : IVec S4096x1 32) (ix2 p 0) = BitVec.ofNat 32 (p.val / 64) := by
  unfold res_main_v71 res_main_v70 res_main_call0_v2 res_main_call0_v0 res_main_v69
  pointwise
  exact v70_word p
theorem v72_apply (p : Fin 4096) : (res_main_v72 V : IVec S1x4096 32) (ix2 0 p) = BitVec.ofNat 32 (p.val / 64) := by
  unfold res_main_v72 res_main_v70 res_main_call0_v2 res_main_call0_v0 res_main_v69
  pointwise
  exact v70_word p

/-- Which pairs of rows the cut drops. -/
theorem far_word : ∀ a b : Fin 64, IntOp.ori
      (IntOp.andi (IntOp.cmpi .slt (BitVec.ofNat 32 a.val) 32#32) (IntOp.cmpi .sge (BitVec.ofNat 32 b.val) 48#32))
      (IntOp.andi (IntOp.cmpi .sge (BitVec.ofNat 32 a.val) 32#32) (IntOp.cmpi .slt (BitVec.ofNat 32 b.val) 16#32))
    = if (a.val < 32 ∧ 48 ≤ b.val) ∨ (32 ≤ a.val ∧ b.val < 16) then 1#1 else 0#1 := by decide +kernel

/-- The spatial affinities of real features, cut to the windows. -/
theorem v88_apply (h : ∀ p d, ∃ r : ℝ, refSpa V p d = r) (p q : Fin 4096) :
    (res_main_v88 V : FVec Ideal S4096x4096 .f32) (ix2 p q)
      = if (p.val / 64 < 32 ∧ 48 ≤ q.val / 64) ∨ (32 ≤ p.val / 64 ∧ q.val / 64 < 16) then 0
        else if p = q then 0 else aff (refSpa V p) (refSpa V q) := by
  rw [← exp_dist (h p) (h q)]
  unfold res_main_v88
  pointwise
  have hp := p.isLt
  have hq := q.isLt
  have ef := far_word ⟨p.val / 64, by omega⟩ ⟨q.val / 64, by omega⟩
  refine (congrArg₂ (fun a b => Scalar.select (IntOp.ori
        (IntOp.andi (IntOp.cmpi .slt a 32#32) (IntOp.cmpi .sge b 48#32))
        (IntOp.andi (IntOp.cmpi .sge a 32#32) (IntOp.cmpi .slt b 16#32))) _ _) (v71_apply V p) (v72_apply V q)).trans ?_
  refine (congrArg (fun w => Scalar.select w _ _) ef).trans ?_
  by_cases hc : (p.val / 64 < 32 ∧ 48 ≤ q.val / 64) ∨ (32 ≤ p.val / 64 ∧ q.val / 64 < 16)
  · rw [if_pos hc, if_pos hc]
    exact (show _ = Ideal.ofBits .f32 0x00000000#32 from rfl).trans (Ideal.ofBits_zero .f32)
  · rw [if_neg hc, if_neg hc]
    refine (off_diagonal p q _).trans (congrArg (fun z => if p = q then (0 : EReal) else Ideal.exp (negHalf * max z 0)) ?_)
    exact congrArg₂ (fun a b : EReal => a - b) (congrArg₂ (fun a b : EReal => a + b) (v44_apply V p) (v44_apply V q)) rfl

/-- The reference's result, entry by entry. -/
theorem out_apply (y : FVec Ideal S4096x21 .f32) (i j : Fin 64) (l : Fin 21) :
    (shapeCast S64x64x21 y shapeCasts_S4096x21_S64x64x21 : FVec Ideal S64x64x21 .f32) (ix3 i j l) = y (ix2 ⟨i.val * 64 + j.val, by have := i.isLt; have := j.isLt; omega⟩ l) := by
  pointwise

/-- The unary energies, pixel by pixel. -/
theorem v0_apply (p : Fin 4096) (l : Fin 21) : (res_main_v0 V : FVec Ideal S4096x21 .f32) (ix2 p l)
    = (V (Proc.devRef .tc main_arg0) : FVec Ideal S64x64x21 .f32) (ix3 ⟨p.val / 64, by have := p.isLt; omega⟩ ⟨p.val % 64, Nat.mod_lt _ (by decide)⟩ l) := by
  unfold res_main_v0
  pointwise

end Cert.ReferenceIdeal.Crf

end
-- ==== Proof.Math.Equation.lean ====
module

public import proofs.«01_k».proof.Proof.Math.Kernel
public import proofs.«01_k».proof.Proof.Math.Reference
public import proofs.«01_k».proof.Pre_image_finite

/-! The kernel's result is the reference's, entry by entry, at arguments whose image is finite. -/

@[expose] public section

set_option maxRecDepth 16384
set_option maxHeartbeats 1000000

noncomputable section

namespace Cert.Equation

open Idealize.ShloMosaic Idealize.ShloMosaic.TcCoe Cert.Crf
open Cert.KernelIdeal.Crf (positions feats spats bil spa bilateral spatial winOf)

/-! ## The features are real -/

/-- A real number divided by a nonzero real is real. -/
theorem real_div {x y : EReal} (hx : ∃ r : ℝ, x = r) (s : ℝ) (hs : s ≠ 0) (hy : y = s) : ∃ r : ℝ, Ideal.div x y = r := by
  obtain ⟨r, rfl⟩ := hx
  subst hy
  refine ⟨r * s⁻¹, ?_⟩
  unfold Ideal.div
  rw [if_neg (by exact_mod_cast hs), EReal.coe_mul, EReal.coe_inv]

/-- The scale of the positions in the bilateral features. -/
theorem eighty : Ideal.ofBits .f32 0x42A00000#32 = ((80 : ℝ) : EReal) := by
  simp [Ideal.ofBits, Ideal.ieee, -EReal.coe_mul]; norm_num
/-- The scale of the colours. -/
theorem thirteen : Ideal.ofBits .f32 0x41500000#32 = ((13 : ℝ) : EReal) := by
  simp [Ideal.ofBits, Ideal.ieee, -EReal.coe_mul]; norm_num
/-- The scale of the positions in the spatial features. -/
theorem three : Ideal.ofBits .f32 0x40400000#32 = ((3 : ℝ) : EReal) := by
  simp [Ideal.ofBits, Ideal.ieee, -EReal.coe_mul]; norm_num

/-- A pixel's coordinates are real. -/
theorem positions_real (p : Fin 4096) (d : Fin 2) : ∃ r : ℝ, ((positions (F := Ideal)) (ix2 p d) : EReal) = r := by
  have e : ((positions (F := Ideal)) (ix2 p d) : EReal) = if h : d.val < 1 then (FloatOps.sitofp .f32 (BitVec.ofNat 32 (p.val % 64)) : Ideal .f32)
      else (FloatOps.sitofp .f32 (BitVec.ofNat 32 (p.val / 64)) : Ideal .f32) := by
    pointwise [positions]
  rw [e]
  split <;> exact ⟨_, rfl⟩

/-- Its spatial features are real. -/
theorem spa_real (p : Fin 4096) (d : Fin 2) : ∃ r : ℝ, spa p d = r := by
  have e : spa p d = Ideal.div ((positions (F := Ideal)) (ix2 p d)) (Ideal.ofBits .f32 0x40400000#32) := by
    unfold spa
    pointwise [spats]
  rw [e]
  exact real_div (positions_real p d) 3 (by norm_num) three

/-- Its bilateral features are real where the image is. -/
theorem bil_real (x : FVec Ideal Cert.KernelIdeal.S64x64x3 .f32) (hx : ∀ i, ∃ r : ℝ, (x i : EReal) = r) (p : Fin 4096) (d : Fin 5) :
    ∃ r : ℝ, bil x p d = r := by
  by_cases h : d.val < 2
  · have e : bil x p d = Ideal.div ((positions (F := Ideal)) (ix2 p ⟨d.val, h⟩)) (Ideal.ofBits .f32 0x42A00000#32) := by
      unfold bil
      pointwise [feats]
      rw [dif_pos h]
    rw [e]
    exact real_div (positions_real p _) 80 (by norm_num) eighty
  · have e : bil x p d = Ideal.div (x (ix3 ⟨p.val / 64, by have := p.isLt; omega⟩ ⟨p.val % 64, Nat.mod_lt _ (by decide)⟩ ⟨d.val - 2, by have := d.isLt; omega⟩)) (Ideal.ofBits .f32 0x41500000#32) := by
      unfold bil
      pointwise [feats]
      rw [dif_neg h]
    rw [e]
    exact real_div (hx _) 13 (by norm_num) thirteen

/-- An image below infinity in absolute value is real. -/
theorem image_real [Cert.Pre_image_finite.Facts] (a : FVec Ideal Cert.Pre_image_finite.S64x64x21 .f32) (x : FVec Ideal Cert.Pre_image_finite.S64x64x3 .f32)
    (b b' : FVec Ideal Cert.Pre_image_finite.S_ .f32) (h : Cert.Pre_image_finite.fn (F := Ideal) a x b b' = fun _ => 1#1) (i) : ∃ r : ℝ, (x i : EReal) = r := by
  have hi : Ideal.cmp .olt (max (x i : EReal) (-(x i : EReal))) (Ideal.ofBits .f32 0x7F800000#32) = 1#1 := congrFun h i
  have ht : Ideal.ofBits .f32 0x7F800000#32 = ⊤ := by simp [Ideal.ofBits, Ideal.ieee]
  rw [ht] at hi
  unfold Ideal.cmp at hi
  have hlt : max (x i : EReal) (-(x i : EReal)) < ⊤ := by
    by_contra hc
    simp [hc] at hi
  have h1 : (x i : EReal) ≠ ⊤ := fun e => by rw [e] at hlt; simp at hlt
  have h2 : (x i : EReal) ≠ ⊥ := fun e => by rw [e] at hlt; simp at hlt
  exact ⟨_, (EReal.coe_toReal h1 h2).symm⟩

/-! ## The affinities agree -/

variable (V : Valuation Cert.ReferenceIdeal.τ Cert.ReferenceIdeal.sig (Elt Ideal))

/-- The image among a memory's contents. -/
abbrev imageOf : FVec Ideal Cert.KernelIdeal.S64x64x3 .f32 := V (Proc.devRef .tc Cert.ReferenceIdeal.main_arg1)

/-- The reference's bilateral features are the kernel's. -/
theorem bil_eq : Cert.ReferenceIdeal.Crf.refBil V = bil (imageOf V) := rfl
/-- The reference's spatial features are the kernel's. -/
theorem spa_eq : Cert.ReferenceIdeal.Crf.refSpa V = spa := rfl

/-- The reference's bilateral affinity, of real features, is the kernel's. -/
theorem bilateral_eq (h : ∀ i, ∃ r : ℝ, (imageOf V i : EReal) = r) (p q : Fin 4096) :
    (Cert.ReferenceIdeal.Value.res_main_v42 V : FVec Ideal Cert.ReferenceIdeal.S4096x4096 .f32) (ix2 p q) = bilateral (imageOf V) p q := by
  rw [Cert.ReferenceIdeal.Crf.v42_apply V (by rw [bil_eq]; exact bil_real _ h) p q, bil_eq]
  rfl

/-- The reference's spatial affinity is the kernel's: the pairs it sets to zero are those outside the kernel's window. -/
theorem spatial_eq (p q : Fin 4096) :
    (Cert.ReferenceIdeal.Value.res_main_v88 V : FVec Ideal Cert.ReferenceIdeal.S4096x4096 .f32) (ix2 p q) = spatial p q := by
  rw [Cert.ReferenceIdeal.Crf.v88_apply V (by rw [spa_eq]; exact spa_real) p q, spa_eq]
  unfold spatial
  rw [aff_comm (spa q)]
  have hp := p.isLt
  have hq := q.isLt
  refine if_congr ?_ rfl (if_congr eq_comm rfl rfl)
  unfold winOf Cert.KernelIdeal.Crf.winStart
  show _ ↔ q.val < (if p.val / 1024 < 2 then 0 else 1024) ∨ (if p.val / 1024 < 2 then 0 else 1024) + 3072 ≤ q.val
  split <;> omega

/-! ## The results agree -/

/-- The reference's result as an array of the result's shape. -/
def outcome : FVec Ideal Cert.ReferenceIdeal.S64x64x21 .f32 :=
  shapeCast Cert.ReferenceIdeal.S64x64x21 (Cert.ReferenceIdeal.Crf.refQ V 5) Cert.ReferenceIdeal.Gen.facts.shapeCasts_S4096x21_S64x64x21

/-- At memories that agree on the arguments, with a real image, the reference's result is the kernel's. -/
theorem outcome_eq (m : (ℓ : Loc Cert.KernelIdeal.nD Cert.KernelIdeal.τ Cert.KernelIdeal.sig) → Buf (Elt Ideal) ℓ) (c : Dev Cert.KernelIdeal.nD)
    (h0 : V (Proc.devRef .tc Cert.ReferenceIdeal.main_arg0) = m ((c.tc : Thread Cert.KernelIdeal.nD Cert.KernelIdeal.τ).loc Cert.KernelIdeal.main_arg0))
    (h1 : V (Proc.devRef .tc Cert.ReferenceIdeal.main_arg1) = m ((c.tc : Thread Cert.KernelIdeal.nD Cert.KernelIdeal.τ).loc Cert.KernelIdeal.main_arg1))
    (h2 : V (Proc.devRef .tc Cert.ReferenceIdeal.main_arg2) = m ((c.tc : Thread Cert.KernelIdeal.nD Cert.KernelIdeal.τ).loc Cert.KernelIdeal.main_arg2))
    (h3 : V (Proc.devRef .tc Cert.ReferenceIdeal.main_arg3) = m ((c.tc : Thread Cert.KernelIdeal.nD Cert.KernelIdeal.τ).loc Cert.KernelIdeal.main_arg3))
    (hx : ∀ i, ∃ r : ℝ, (imageOf V i : EReal) = r) :
    outcome V = (Cert.KernelIdeal.Crf.V5 (F := Ideal) m c Cert.KernelIdeal.main_v0 : FVec Ideal Cert.KernelIdeal.S64x64x21 .f32) := by
  have hK : (fun p q => (Cert.ReferenceIdeal.Value.res_main_v42 V : FVec Ideal Cert.ReferenceIdeal.S4096x4096 .f32) (ix2 p q)) = bilateral (Cert.KernelIdeal.Crf.image m c) := by
    funext p q
    rw [bilateral_eq V hx p q]
    exact congrFun (congrFun (congrArg bilateral h1) p) q
  have hS : (fun p q => (Cert.ReferenceIdeal.Value.res_main_v88 V : FVec Ideal Cert.ReferenceIdeal.S4096x4096 .f32) (ix2 p q)) = spatial := by
    funext p q
    exact spatial_eq V p q
  have hU : (fun (l : Fin 21) (p : Fin 4096) => (Cert.ReferenceIdeal.Value.res_main_v0 V : FVec Ideal Cert.ReferenceIdeal.S4096x21 .f32) (ix2 p l)) = Cert.KernelIdeal.Crf.unary m c := by
    funext l p
    rw [Cert.ReferenceIdeal.Crf.v0_apply V p l]
    exact congrFun h0 _
  have hb : (V (Proc.devRef .tc Cert.ReferenceIdeal.main_arg2) : FVec Ideal Cert.ReferenceIdeal.S_ .f32) ix0 = Cert.KernelIdeal.Crf.weightB m c := congrFun h2 _
  have hs : (V (Proc.devRef .tc Cert.ReferenceIdeal.main_arg3) : FVec Ideal Cert.ReferenceIdeal.S_ .f32) ix0 = Cert.KernelIdeal.Crf.weightS m c := congrFun h3 _
  have key : ∀ (i j : Fin 64) (l : Fin 21), outcome V (ix3 i j l)
      = (Cert.KernelIdeal.Crf.V5 (F := Ideal) m c Cert.KernelIdeal.main_v0 : FVec Ideal Cert.KernelIdeal.S64x64x21 .f32) (ix3 i j l) := by
    intro i j l
    refine ((Cert.ReferenceIdeal.Crf.out_apply _ i j l).trans (Cert.ReferenceIdeal.Crf.refIter_apply _ _ _ _ _ 5 _ l)).trans ?_
    rw [hK, hS, hU, hb, hs]
    exact (Cert.KernelIdeal.Crf.output_apply m c i j l).symm
  funext y
  have ey : y = ix3 (y 0) (y 1) (y 2) := by
    funext k
    fin_cases k <;> rfl
  rw [ey]
  exact key _ _ _

end Cert.Equation

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Kern.Same
public import proofs.«01_k».proof.Proof.Math.Equation

/-! The claim: each program keeps its arguments and ends with its semaphores at zero, and the kernel's result is the reference's. -/

@[expose] public section

noncomputable section

namespace Cert.Proof

open Cert.Equation Idealize.ShloMosaic Idealize.ShloMosaic.TcCoe Idealize.SL Idealize.SL.Sem Idealize.ShloMosaic.StableHlo

/-- The kernel as traced keeps its arguments and ends with its semaphores at zero. -/
theorem frame_kernel : Cert.quiescent_Kernel := fun m ρ _ => Cert.Crf.kept (F := Bits) m ρ

/-- So does the kernel idealized. -/
theorem frame_ideal : Cert.quiescent_KernelIdeal := fun m ρ _ =>
  θ_run_mono (Cert.KernelIdeal.Crf.run_args (F := Ideal) m ρ) fun _ h => ⟨fun c => (h.1 c).2, h.2⟩

/-- So does the reference, which declares no semaphore. -/
theorem frame_reference : Cert.quiescent_ReferenceIdeal := fun m ρ _ =>
  θ_run_mono (Cert.ReferenceIdeal.Value.run (F := Ideal) m ρ) fun r h =>
    ⟨fun c => (h c).2, sem_eq_zero_of_no_sems (by decide) r.2⟩

/-- The predicate's side condition: a scalar spreads over the image's shape. -/
theorem facts_image_finite : Cert.Pre_image_finite.Facts := ⟨by decide⟩

attribute [local instance] facts_image_finite

/-- From memories that agree on the arguments, with a finite image, the array that the reference ends with is the one that the kernel ends with. -/
theorem results (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hp : Cert.Pre_image_finite.fn (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) = fun _ => 1#1)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    outcome (launchContents m' c) = (Cert.KernelIdeal.Crf.V5 (F := Ideal) m c Cert.KernelIdeal.main_v0 : FVec Ideal Cert.KernelIdeal.S64x64x21 .f32) :=
  outcome_eq (launchContents m' c) m c h.1 h.2.1 h.2.2.1 h.2.2.2 fun i => by
    obtain ⟨r, hr⟩ := image_real _ _ _ _ hp i
    exact ⟨r, (congrFun h.2.1 i).trans hr⟩

/-- From memories that agree on the arguments, with a finite image, the kernel and the reference end with the same result. -/
theorem algebraic : Cert.algebraic_KernelIdeal_ReferenceIdeal_pre_image_finite := by
  intro m g m' g' hp h
  refine ⟨fun c => Cert.KernelIdeal.Crf.V5 (F := Ideal) m c Cert.KernelIdeal.main_v0,
    θ_run_mono (Cert.KernelIdeal.Crf.run_args (F := Ideal) m g) fun _ hr c => hr.1 c,
    θ_run_mono (Cert.ReferenceIdeal.Value.run (F := Ideal) m' g') fun _ hr c => ⟨(hr c).1.trans ((congrArg (fun y => shapeCast Cert.ReferenceIdeal.S64x64x21 y Cert.ReferenceIdeal.Gen.facts.shapeCasts_S4096x21_S64x64x21) (Cert.ReferenceIdeal.Crf.last_eq _)).trans (results m m' c (hp c) (h c))), (hr c).2⟩⟩

/-- Everything claimed; a frame under a precondition follows from the frame without. -/
theorem claim : Cert.Claim :=
  ⟨Cert.Kernel.Gen.facts, Cert.KernelIdeal.Gen.facts, Cert.ReferenceIdeal.Gen.facts, facts_image_finite,
    frame_kernel, frame_ideal, fun m ρ _ => frame_ideal m ρ trivial, frame_reference, fun m ρ _ => frame_reference m ρ trivial, trivial, algebraic⟩

end Cert.Proof

end
